-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S16x4096x768 : Shape := ⟨3, ![16, 4096, 768]⟩
abbrev S32x8 : Shape := ⟨2, ![32, 8]⟩
abbrev S1x8 : Shape := ⟨2, ![1, 8]⟩
abbrev S_ : Shape := ⟨0, ![]⟩

class Facts : Prop where
  bcast_S_S16x4096x768 : S_.BroadcastsInDim S16x4096x768 (![] : Fin 0 → Fin S16x4096x768.rank)
  reducesTo_S16x4096x768_S_d0_1_2 : S16x4096x768.ReducesTo [0, 1, 2] S_
  h_S_ : 0 < S_.numel
  bcast_S_S32x8 : S_.BroadcastsInDim S32x8 (![] : Fin 0 → Fin S32x8.rank)
  reducesTo_S32x8_S_d0_1 : S32x8.ReducesTo [0, 1] S_
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S16x4096x768 .f32) (main_arg1 : FVec F S32x8 .f32) (main_arg2 : FVec F S1x8 .f32) : IVec S_ 1 :=
  let main_v0 : FVec F S16x4096x768 .f32 := Host.absf main_arg0
  let main_cst : FVec F S_ .f32 := constant S_ .f32 0x7F800000#32
  let main_v1 : FVec F S16x4096x768 .f32 := broadcastInDim S16x4096x768 ![] bcast_S_S16x4096x768 main_cst
  let main_v2 : IVec S16x4096x768 1 := cmpf .olt main_v0 main_v1
  let main_c : IVec S_ 1 := constantI S_ 1 1#1
  let main_v3 : IVec S_ 1 := (fun x v => Host.reduce IntOp.andi x v reducesTo_S16x4096x768_S_d0_1_2 h_S_) main_v2 main_c
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  let main_v9 : FVec F S1x8 .f32 := Host.absf main_arg2
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  main_v13
-- ==== Kernel.lean ====
abbrev S16x4096x768 : Shape := ⟨3, ![16, 4096, 768]⟩
abbrev S32x8 : Shape := ⟨2, ![32, 8]⟩
abbrev S1x8 : Shape := ⟨2, ![1, 8]⟩
abbrev S_ : Shape := ⟨0, ![]⟩
abbrev S512 : Shape := ⟨1, ![512]⟩
abbrev S256 : Shape := ⟨1, ![256]⟩
abbrev S768 : Shape := ⟨1, ![768]⟩
abbrev S1x1x768 : Shape := ⟨3, ![1, 1, 768]⟩
abbrev S16x4096x512 : Shape := ⟨3, ![16, 4096, 512]⟩
abbrev S16x4096x64 : Shape := ⟨3, ![16, 4096, 64]⟩
abbrev S16x4096x256 : Shape := ⟨3, ![16, 4096, 256]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S1x8x128x384 : Shape := ⟨4, ![1, 8, 128, 384]⟩
abbrev S3x8x128x384 : Shape := ⟨4, ![3, 8, 128, 384]⟩
abbrev S3x1x128x384 : Shape := ⟨4, ![3, 1, 128, 384]⟩
abbrev S3x128x384 : Shape := ⟨3, ![3, 128, 384]⟩
abbrev S3x4x2x128x384 : Shape := ⟨5, ![3, 4, 2, 128, 384]⟩
abbrev S3x4x128x2x384 : Shape := ⟨5, ![3, 4, 128, 2, 384]⟩
abbrev S3x512x768 : Shape := ⟨3, ![3, 512, 768]⟩
abbrev S8 : Shape := ⟨1, ![8]⟩
abbrev S1 : Shape := ⟨1, ![1]⟩
abbrev S1x2048x512 : Shape := ⟨3, ![1, 2048, 512]⟩
abbrev S1x4096x128 : Shape := ⟨3, ![1, 4096, 128]⟩
abbrev S384x128 : Shape := ⟨2, ![384, 128]⟩
abbrev S128x128 : Shape := ⟨2, ![128, 128]⟩
abbrev S1x128x512 : Shape := ⟨3, ![1, 128, 512]⟩
abbrev S128x512 : Shape := ⟨2, ![128, 512]⟩
abbrev S512x128 : Shape := ⟨2, ![512, 128]⟩
abbrev S1x128x128 : Shape := ⟨3, ![1, 128, 128]⟩
abbrev S768x128 : Shape := ⟨2, ![768, 128]⟩
abbrev S512x768 : Shape := ⟨2, ![512, 768]⟩
abbrev S1x512x768 : Shape := ⟨3, ![1, 512, 768]⟩
abbrev S128x768 : Shape := ⟨2, ![128, 768]⟩

abbrev nBuf : Space → Nat
  | .hbm => 185
  | .vmem => 9
  | .smem => 1
  | _ => 0

abbrev hbmTy0_0 (i : Nat) : BufTy := match i % 128 with
  | 0 => ⟨S16x4096x768, .f32⟩
  | 1 => ⟨S32x8, .f32⟩
  | 2 => ⟨S1x8, .f32⟩
  | 3 => ⟨S_, .f32⟩
  | 4 => ⟨S512, .f32⟩
  | 5 => ⟨S_, .f32⟩
  | 6 => ⟨S_, .f32⟩
  | 7 => ⟨S_, .f32⟩
  | 8 => ⟨S_, .f32⟩
  | 9 => ⟨S512, .f32⟩
  | 10 => ⟨S512, .f32⟩
  | 11 => ⟨S_, .f32⟩
  | 12 => ⟨S256, .f32⟩
  | 13 => ⟨S768, .f32⟩
  | 14 => ⟨S1x1x768, .f32⟩
  | 15 => ⟨S16x4096x768, .f32⟩
  | 16 => ⟨S16x4096x768, .f32⟩
  | 17 => ⟨S16x4096x512, .f32⟩
  | 18 => ⟨S16x4096x64, .f32⟩
  | 19 => ⟨S16x4096x64, .f32⟩
  | 20 => ⟨S16x4096x64, .f32⟩
  | 21 => ⟨S16x4096x64, .f32⟩
  | 22 => ⟨S16x4096x64, .f32⟩
  | 23 => ⟨S16x4096x64, .f32⟩
  | 24 => ⟨S16x4096x64, .f32⟩
  | 25 => ⟨S16x4096x64, .f32⟩
  | 26 => ⟨S16x4096x512, .f32⟩
  | 27 => ⟨S16x4096x256, .f32⟩
  | 28 => ⟨S16x4096x768, .f32⟩
  | 29 => ⟨S16x4096x768, .bf16⟩
  | 30 => ⟨S384, .i32⟩
  | 31 => ⟨S1x384, .i32⟩
  | 32 => ⟨S_, .i32⟩
  | 33 => ⟨S1x384, .i32⟩
  | 34 => ⟨S1x384, .i32⟩
  | 35 => ⟨S128, .i32⟩
  | 36 => ⟨S128x1, .i32⟩
  | 37 => ⟨S128x384, .i32⟩
  | 38 => ⟨S128x384, .i32⟩
  | 39 => ⟨S128x384, .i32⟩
  | 40 => ⟨S128x384, .i32⟩
  | 41 => ⟨S_, .i32⟩
  | 42 => ⟨S128x384, .i32⟩
  | 43 => ⟨S128x384, .i1⟩
  | 44 => ⟨S_, .i32⟩
  | 45 => ⟨S128x384, .i32⟩
  | 46 => ⟨S128x384, .i1⟩
  | 47 => ⟨S_, .i32⟩
  | 48 => ⟨S_, .i32⟩
  | 49 => ⟨S128x384, .i32⟩
  | 50 => ⟨S128x384, .i32⟩
  | 51 => ⟨S128x384, .i32⟩
  | 52 => ⟨S128x384, .i32⟩
  | 53 => ⟨S_, .i32⟩
  | 54 => ⟨S128x384, .i32⟩
  | 55 => ⟨S128x384, .i32⟩
  | 56 => ⟨S128x384, .f32⟩
  | 57 => ⟨S_, .f32⟩
  | 58 => ⟨S128x384, .f32⟩
  | 59 => ⟨S128x384, .f32⟩
  | 60 => ⟨S128x384, .f32⟩
  | 61 => ⟨S_, .f32⟩
  | 62 => ⟨S128x384, .f32⟩
  | 63 => ⟨S128x384, .f32⟩
  | 64 => ⟨S_, .f32⟩
  | 65 => ⟨S128x384, .f32⟩
  | 66 => ⟨S128x384, .f32⟩
  | 67 => ⟨S128x384, .i32⟩
  | 68 => ⟨S_, .i32⟩
  | 69 => ⟨S128x384, .i32⟩
  | 70 => ⟨S128x384, .i32⟩
  | 71 => ⟨S_, .i32⟩
  | 72 => ⟨S128x384, .i32⟩
  | 73 => ⟨S128x384, .i32⟩
  | 74 => ⟨S_, .i32⟩
  | 75 => ⟨S128x384, .i32⟩
  | 76 => ⟨S128x384, .i1⟩
  | 77 => ⟨S128x384, .i32⟩
  | 78 => ⟨S128x384, .i32⟩
  | 79 => ⟨S128x384, .i32⟩
  | 80 => ⟨S_, .i32⟩
  | 81 => ⟨S128x384, .i32⟩
  | 82 => ⟨S128x384, .i1⟩
  | 83 => ⟨S_, .i32⟩
  | 84 => ⟨S128x384, .i32⟩
  | 85 => ⟨S128x384, .i32⟩
  | 86 => ⟨S128x384, .i32⟩
  | 87 => ⟨S128x384x1, .i32⟩
  | 88 => ⟨S128x384x8, .f32⟩
  | 89 => ⟨S8x128x384, .f32⟩
  | 90 => ⟨S_, .f32⟩
  | 91 => ⟨S_, .f32⟩
  | 92 => ⟨S_, .f32⟩
  | 93 => ⟨S_, .f32⟩
  | 94 => ⟨S8x128x384, .f32⟩
  | 95 => ⟨S8x128x384, .f32⟩
  | 96 => ⟨S_, .f32⟩
  | 97 => ⟨S_, .f32⟩
  | 98 => ⟨S8x128x384, .i1⟩
  | 99 => ⟨S8x128x384, .f32⟩
  | 100 => ⟨S8x128x384, .f32⟩
  | 101 => ⟨S384, .i32⟩
  | 102 => ⟨S_, .i32⟩
  | 103 => ⟨S_, .i32⟩
  | 104 => ⟨S384, .i32⟩
  | 105 => ⟨S384, .i32⟩
  | 106 => ⟨S384, .i32⟩
  | 107 => ⟨S_, .i32⟩
  | 108 => ⟨S384, .i32⟩
  | 109 => ⟨S384, .i1⟩
  | 110 => ⟨S384, .i32⟩
  | 111 => ⟨S384, .i32⟩
  | 112 => ⟨S_, .i32⟩
  | 113 => ⟨S384, .i32⟩
  | 114 => ⟨S384, .i1⟩
  | 115 => ⟨S384, .i1⟩
  | 116 => ⟨S_, .i32⟩
  | 117 => ⟨S384, .i32⟩
  | 118 => ⟨S384, .i32⟩
  | 119 => ⟨S384, .i32⟩
  | 120 => ⟨S_, .i32⟩
  | 121 => ⟨S384, .i32⟩
  | 122 => ⟨S384, .i1⟩
  | 123 => ⟨S_, .f32⟩
  | 124 => ⟨S_, .f32⟩
  | 125 => ⟨S8x128x384, .i1⟩
  | 126 => ⟨S8x128x384, .f32⟩
  | 127 => ⟨S8x128x384, .f32⟩
  | _ => ⟨S16x4096x768, .f32⟩

abbrev hbmTy0_1 (i : Nat) : BufTy := match i % 128 with
  | 0 => ⟨S_, .i32⟩
  | 1 => ⟨S384, .i32⟩
  | 2 => ⟨S384, .i1⟩
  | 3 => ⟨S_, .f32⟩
  | 4 => ⟨S_, .f32⟩
  | 5 => ⟨S8x128x384, .i1⟩
  | 6 => ⟨S8x128x384, .f32⟩
  | 7 => ⟨S8x128x384, .f32⟩
  | 8 => ⟨S1x8x128x384, .f32⟩
  | 9 => ⟨S1x8x128x384, .f32⟩
  | 10 => ⟨S1x8x128x384, .f32⟩
  | 11 => ⟨S3x8x128x384, .f32⟩
  | 12 => ⟨S3x1x128x384, .f32⟩
  | 13 => ⟨S3x128x384, .f32⟩
  | 14 => ⟨S3x1x128x384, .f32⟩
  | 15 => ⟨S3x128x384, .f32⟩
  | 16 => ⟨S3x1x128x384, .f32⟩
  | 17 => ⟨S3x128x384, .f32⟩
  | 18 => ⟨S3x1x128x384, .f32⟩
  | 19 => ⟨S3x128x384, .f32⟩
  | 20 => ⟨S3x1x128x384, .f32⟩
  | 21 => ⟨S3x128x384, .f32⟩
  | 22 => ⟨S3x1x128x384, .f32⟩
  | 23 => ⟨S3x128x384, .f32⟩
  | 24 => ⟨S3x1x128x384, .f32⟩
  | 25 => ⟨S3x128x384, .f32⟩
  | 26 => ⟨S3x1x128x384, .f32⟩
  | 27 => ⟨S3x128x384, .f32⟩
  | 28 => ⟨S3x1x128x384, .f32⟩
  | 29 => ⟨S3x1x128x384, .f32⟩
  | 30 => ⟨S3x1x128x384, .f32⟩
  | 31 => ⟨S3x1x128x384, .f32⟩
  | 32 => ⟨S3x1x128x384, .f32⟩
  | 33 => ⟨S3x1x128x384, .f32⟩
  | 34 => ⟨S3x1x128x384, .f32⟩
  | 35 => ⟨S3x1x128x384, .f32⟩
  | 36 => ⟨S3x8x128x384, .f32⟩
  | 37 => ⟨S3x4x2x128x384, .f32⟩
  | 38 => ⟨S3x4x128x2x384, .f32⟩
  | 39 => ⟨S3x512x768, .f32⟩
  | 40 => ⟨S8, .f32⟩
  | 41 => ⟨S1, .f32⟩
  | 42 => ⟨S1, .f32⟩
  | 43 => ⟨S1, .f32⟩
  | 44 => ⟨S1, .f32⟩
  | 45 => ⟨S1, .f32⟩
  | 46 => ⟨S1, .f32⟩
  | 47 => ⟨S1, .f32⟩
  | 48 => ⟨S1, .f32⟩
  | 49 => ⟨S8, .f32⟩
  | 50 => ⟨S_, .f32⟩
  | 51 => ⟨S_, .f32⟩
  | 52 => ⟨S_, .f32⟩
  | 53 => ⟨S_, .f32⟩
  | 54 => ⟨S8, .f32⟩
  | 55 => ⟨S8, .f32⟩
  | 56 => ⟨S16x4096x512, .bf16⟩
  | _ => ⟨S16x4096x768, .f32⟩

abbrev hbmTy (i : Nat) : BufTy := match i / 128 with
  | 0 => hbmTy0_0 i
  | 1 => hbmTy0_1 i
  | _ => ⟨S16x4096x768, .f32⟩

abbrev bufTy : (tb : Table) → Fin (tcTables nBuf tb) → BufTy
  | .hbm, ⟨i, _⟩ => hbmTy i
  | .local _ .vmem, ⟨0, _⟩ => ⟨S1x2048x512, .bf16⟩
  | .local _ .vmem, ⟨1, _⟩ => ⟨S1x2048x512, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S3x512x768, .f32⟩
  | .local _ .vmem, ⟨7, _⟩ => ⟨S1x2048x512, .bf16⟩
  | .local _ .vmem, ⟨8, _⟩ => ⟨S1x2048x512, .bf16⟩
  | .local _ .smem, ⟨0, _⟩ => ⟨S8, .f32⟩
  | _, _ => ⟨S16x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_c_4 : Ref sig .tc := ⟨.hbm, 44, rfl⟩
abbrev main_v35 : Ref sig .tc := ⟨.hbm, 45, rfl⟩
abbrev main_v36 : Ref sig .tc := ⟨.hbm, 46, rfl⟩
abbrev main_c_5 : Ref sig .tc := ⟨.hbm, 47, rfl⟩
abbrev main_c_6 : Ref sig .tc := ⟨.hbm, 48, rfl⟩
abbrev main_call0_v0 : Ref sig .tc := ⟨.hbm, 49, rfl⟩
abbrev main_call0_v1 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_11 : Ref sig .tc := ⟨.hbm, 68, rfl⟩
abbrev main_v50 : Ref sig .tc := ⟨.hbm, 69, rfl⟩
abbrev main_v51 : Ref sig .tc := ⟨.hbm, 70, rfl⟩
abbrev main_c_12 : Ref sig .tc := ⟨.hbm, 71, rfl⟩
abbrev main_v52 : Ref sig .tc := ⟨.hbm, 72, rfl⟩
abbrev main_v53 : Ref sig .tc := ⟨.hbm, 73, rfl⟩
abbrev main_c_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_14 : Ref sig .tc := ⟨.hbm, 80, rfl⟩
abbrev main_v59 : Ref sig .tc := ⟨.hbm, 81, rfl⟩
abbrev main_v60 : Ref sig .tc := ⟨.hbm, 82, rfl⟩
abbrev main_c_15 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_cst_17 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_18 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_v71 : Ref sig .tc := ⟨.hbm, 100, rfl⟩
abbrev main_v72 : Ref sig .tc := ⟨.hbm, 101, rfl⟩
abbrev main_c_19 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_c : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_0 : Ref sig .tc := ⟨.hbm, 116, rfl⟩
abbrev main_call3_v12 : Ref sig .tc := ⟨.hbm, 117, rfl⟩
abbrev main_call3_v13 : Ref sig .tc := ⟨.hbm, 118, rfl⟩
abbrev main_v73 : Ref sig .tc := ⟨.hbm, 119, rfl⟩
abbrev main_c_20 : Ref sig .tc := ⟨.hbm, 120, rfl⟩
abbrev main_v74 : Ref sig .tc := ⟨.hbm, 121, rfl⟩
abbrev main_v75 : Ref sig .tc := ⟨.hbm, 122, rfl⟩
abbrev main_cst_21 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_v76 : Ref sig .tc := ⟨.hbm, 127, rfl⟩
abbrev main_c_22 : Ref sig .tc := ⟨.hbm, 128, rfl⟩
abbrev main_v77 : Ref sig .tc := ⟨.hbm, 129, rfl⟩
abbrev main_v78 : Ref sig .tc := ⟨.hbm, 130, rfl⟩
abbrev main_cst_23 : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_cst_24 : Ref sig .tc := ⟨.hbm, 178, rfl⟩
abbrev main_v122 : Ref sig .tc := ⟨.hbm, 179, rfl⟩
abbrev main_cst_25 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let c3968_i32 : BitVec 32 := 3968#32
  let c0_i32_1 : BitVec 32 := 0#32
  let arg1 : BitVec 32 := BitVec.ofNat 32 (i 1).val
  let c16_i32 : BitVec 32 := 16#32
  let v6 : BitVec 32 := Scalar.muli arg1 c16_i32
  let c0_i32 : BitVec 32 := 0#32
  let v7 : BitVec 32 := Scalar.addi v6 c0_i32
  let c_m1_i32 : BitVec 32 := 4294967295#32
  let v8 : BitVec 32 := Scalar.addi v7 c_m1_i32
  let c128_i32 : BitVec 32 := 128#32
  let v9 : BitVec 32 := Scalar.muli v8 c128_i32
  let v10 : BitVec 32 := Scalar.maxsi c0_i32_1 v9
  let v11 : BitVec 32 := Scalar.minsi c3968_i32 v10
  v11
def k0_mult2 (i : grid0.Coords) : BitVec 32 :=
  let c3968_i32_5 : BitVec 32 := 3968#32
  let c0_i32_4 : BitVec 32 := 0#32
  let arg1 : BitVec 32 := BitVec.ofNat 32 (i 1).val
  let c16_i32 : BitVec 32 := 16#32
  let v6 : BitVec 32 := Scalar.muli arg1 c16_i32
  let c0_i32 : BitVec 32 := 0#32
  let v7 : BitVec 32 := Scalar.addi v6 c0_i32
  let c0_i32_2 : BitVec 32 := 0#32
  let v13 : BitVec 32 := Scalar.addi v7 c0_i32_2
  let c128_i32_3 : BitVec 32 := 128#32
  let v14 : BitVec 32 := Scalar.muli v13 c128_i32_3
  let v15 : BitVec 32 := Scalar.maxsi c0_i32_4 v14
  let v16 : BitVec 32 := Scalar.minsi c3968_i32_5 v15
  v16
def k0_mult3 (i : grid0.Coords) : BitVec 32 :=
  let c3968_i32_8 : BitVec 32 := 3968#32
  let c0_i32_7 : BitVec 32 := 0#32
  let arg1 : BitVec 32 := BitVec.ofNat 32 (i 1).val
  let c16_i32 : BitVec 32 := 16#32
  let v6 : BitVec 32 := Scalar.muli arg1 c16_i32
  let c0_i32 : BitVec 32 := 0#32
  let v7 : BitVec 32 := Scalar.addi v6 c0_i32
  let c1_i32 : BitVec 32 := 1#32
  let v18 : BitVec 32 := Scalar.addi v7 c1_i32
  let c128_i32_6 : BitVec 32 := 128#32
  let v19 : BitVec 32 := Scalar.muli v18 c128_i32_6
  let v20 : BitVec 32 := Scalar.maxsi c0_i32_7 v19
  let v21 : BitVec 32 := Scalar.minsi c3968_i32_8 v20
  v21
def k0_off1 (i : grid0.Coords) (c0_i32 : BitVec 32) (c_m1_i32 : BitVec 32) : Fin 3 → Nat :=
  let c0_11 : Index := 0#32
  let c3968_i32 : BitVec 32 := 3968#32
  let c0_i32_1 : BitVec 32 := 0#32
  let arg1 : BitVec 32 := BitVec.ofNat 32 (i 1).val
  let c16_i32 : BitVec 32 := 16#32
  let v6 : BitVec 32 := Scalar.muli arg1 c16_i32
  let v7 : BitVec 32 := Scalar.addi v6 c0_i32
  let v8 : BitVec 32 := Scalar.addi v7 c_m1_i32
  let c128_i32 : BitVec 32 := 128#32
  let v9 : BitVec 32 := Scalar.muli v8 c128_i32
  let v10 : BitVec 32 := Scalar.maxsi c0_i32_1 v9
  let v11 : BitVec 32 := Scalar.minsi c3968_i32 v10
  let v12 : BitVec 32 := v11
  let v30 : Index := Scalar.indexCast v12
  let c0_12 : Index := 0#32
  ![0, v30.toNat, 0]
def k0_off1_at (r : Fin 48) : BitVec 32 × BitVec 32 :=
  if r.val < 24 then
    if r.val < 12 then
      if r.val < 6 then
        if r.val < 3 then
          if r.val < 1 then
            (0#32, 4294967295#32)
          else
            if r.val < 2 then
              (0#32, 0#32)
            else
              (0#32, 1#32)
        else
          if r.val < 4 then
            (1#32, 4294967295#32)
          else
            if r.val < 5 then
              (1#32, 0#32)
            else
              (1#32, 1#32)
      else
        if r.val < 9 then
          if r.val < 7 then
            (2#32, 4294967295#32)
          else
            if r.val < 8 then
              (2#32, 0#32)
            else
              (2#32, 1#32)
        else
          if r.val < 10 then
            (3#32, 4294967295#32)
          else
            if r.val < 11 then
              (3#32, 0#32)
            else
              (3#32, 1#32)
    else
      if r.val < 18 then
        if r.val < 15 then
          if r.val < 13 then
            (4#32, 4294967295#32)
          else
            if r.val < 14 then
              (4#32, 0#32)
            else
              (4#32, 1#32)
        else
          if r.val < 16 then
            (5#32, 4294967295#32)
          else
            if r.val < 17 then
              (5#32, 0#32)
            else
              (5#32, 1#32)
      else
        if r.val < 21 then
          if r.val < 19 then
            (6#32, 4294967295#32)
          else
            if r.val < 20 then
              (6#32, 0#32)
            else
              (6#32, 1#32)
        else
          if r.val < 22 then
            (7#32, 4294967295#32)
          else
            if r.val < 23 then
              (7#32, 0#32)
            else
              (7#32, 1#32)
  else
    if r.val < 36 then
      if r.val < 30 then
        if r.val < 27 then
          if r.val < 25 then
            (8#32, 4294967295#32)
          else
            if r.val < 26 then
              (8#32, 0#32)
            else
              (8#32, 1#32)
        else
          if r.val < 28 then
            (9#32, 4294967295#32)
          else
            if r.val < 29 then
              (9#32, 0#32)
            else
              (9#32, 1#32)
      else
        if r.val < 33 then
          if r.val < 31 then
            (10#32, 4294967295#32)
          else
            if r.val < 32 then
              (10#32, 0#32)
            else
              (10#32, 1#32)
        else
          if r.val < 34 then
            (11#32, 4294967295#32)
          else
            if r.val < 35 then
              (11#32, 0#32)
            else
              (11#32, 1#32)
    else
      if r.val < 42 then
        if r.val < 39 then
          if r.val < 37 then
            (12#32, 4294967295#32)
          else
            if r.val < 38 then
              (12#32, 0#32)
            else
              (12#32, 1#32)
        else
          if r.val < 40 then
            (13#32, 4294967295#32)
          else
            if r.val < 41 then
              (13#32, 0#32)
            else
              (13#32, 1#32)
      else
        if r.val < 45 then
          if r.val < 43 then
            (14#32, 4294967295#32)
          else
            if r.val < 44 then
              (14#32, 0#32)
            else
              (14#32, 1#32)
        else
          if r.val < 46 then
            (15#32, 4294967295#32)
          else
            if r.val < 47 then
              (15#32, 0#32)
            else
              (15#32, 1#32)
def k0_off2 (i : grid0.Coords) (c0_i32 : BitVec 32) : Fin 3 → Nat :=
  let arg1 : BitVec 32 := BitVec.ofNat 32 (i 1).val
  let c16_i32 : BitVec 32 := 16#32
  let v6 : BitVec 32 := Scalar.muli arg1 c16_i32
  let v7 : BitVec 32 := Scalar.addi v6 c0_i32
  let c0_i32_18 : BitVec 32 := 0#32
  let v45 : BitVec 1 := Scalar.cmpi .eq v7 c0_i32_18
  let c1_i32_20 : BitVec 32 := 1#32
  let c31_i32 : BitVec 32 := 31#32
  let v46 : BitVec 1 := Scalar.cmpi .eq v7 c31_i32
  let c2_i32 : BitVec 32 := 2#32
  let c0_i32_19 : BitVec 32 := 0#32
  let v47 : BitVec 32 := Scalar.select v46 c2_i32 c0_i32_19
  let v48 : BitVec 32 := Scalar.select v45 c1_i32_20 v47
  let v49 : Index := Scalar.indexCast v48
  let c0_21 : Index := 0#32
  let c0_22 : Index := 0#32
  ![v49.toNat, 0, 0]
def k0_mult4 (i : grid0.Coords) : BitVec 32 :=
  let c3968_i32_35 : BitVec 32 := 3968#32
  let c0_i32_34 : BitVec 32 := 0#32
  let arg1 : BitVec 32 := BitVec.ofNat 32 (i 1).val
  let c16_i32_30 : BitVec 32 := 16#32
  let v67 : BitVec 32 := Scalar.muli arg1 c16_i32_30
  let c1_i32_31 : BitVec 32 := 1#32
  let v68 : BitVec 32 := Scalar.addi v67 c1_i32_31
  let c_m1_i32_32 : BitVec 32 := 4294967295#32
  let v69 : BitVec 32 := Scalar.addi v68 c_m1_i32_32
  let c128_i32_33 : BitVec 32 := 128#32
  let v70 : BitVec 32 := Scalar.muli v69 c128_i32_33
  let v71 : BitVec 32 := Scalar.maxsi c0_i32_34 v70
  let v72 : BitVec 32 := Scalar.minsi c3968_i32_35 v71
  v72
def k0_mult5 (i : grid0.Coords) : BitVec 32 :=
  let c3968_i32_39 : BitVec 32 := 3968#32
  let c0_i32_38 : BitVec 32 := 0#32
  let arg1 : BitVec 32 := BitVec.ofNat 32 (i 1).val
  let c16_i32_30 : BitVec 32 := 16#32
  let v67 : BitVec 32 := Scalar.muli arg1 c16_i32_30
  let c1_i32_31 : BitVec 32 := 1#32
  let v68 : BitVec 32 := Scalar.addi v67 c1_i32_31
  let c0_i32_36 : BitVec 32 := 0#32
  let v74 : BitVec 32 := Scalar.addi v68 c0_i32_36
  let c128_i32_37 : BitVec 32 := 128#32
  let v75 : BitVec 32 := Scalar.muli v74 c128_i32_37
  let v76 : BitVec 32 := Scalar.maxsi c0_i32_38 v75
  let v77 : BitVec 32 := Scalar.minsi c3968_i32_39 v76
  v77
def k0_mult6 (i : grid0.Coords) : BitVec 32 :=
  let c3968_i32_43 : BitVec 32 := 3968#32
  let c0_i32_42 : BitVec 32 := 0#32
  let arg1 : BitVec 32 := BitVec.ofNat 32 (i 1).val
  let c16_i32_30 : BitVec 32 := 16#32
  let v67 : BitVec 32 := Scalar.muli arg1 c16_i32_30
  let c1_i32_31 : BitVec 32 := 1#32
  let v68 : BitVec 32 := Scalar.addi v67 c1_i32_31
  let c1_i32_40 : BitVec 32 := 1#32
  let v79 : BitVec 32 := Scalar.addi v68 c1_i32_40
  let c128_i32_41 : BitVec 32 := 128#32
  let v80 : BitVec 32 := Scalar.muli v79 c128_i32_41
  let v81 : BitVec 32 := Scalar.maxsi c0_i32_42 v80
  let v82 : BitVec 32 := Scalar.minsi c3968_i32_43 v81
  v82
def k0_mult7 (i : grid0.Coords) : BitVec 32 :=
  let c3968_i32_102 : BitVec 32 := 3968#32
  let c0_i32_101 : BitVec 32 := 0#32
  let arg1 : BitVec 32 := BitVec.ofNat 32 (i 1).val
  let c16_i32_97 : BitVec 32 := 16#32
  let v311 : BitVec 32 := Scalar.muli arg1 c16_i32_97
  let c2_i32_98 : BitVec 32 := 2#32
  let v312 : BitVec 32 := Scalar.addi v311 c2_i32_98
  let c_m1_i32_99 : BitVec 32 := 4294967295#32
  let v313 : BitVec 32 := Scalar.addi v312 c_m1_i32_99
  let c128_i32_100 : BitVec 32 := 128#32
  let v314 : BitVec 32 := Scalar.muli v313 c128_i32_100
  let v315 : BitVec 32 := Scalar.maxsi c0_i32_101 v314
  let v316 : BitVec 32 := Scalar.minsi c3968_i32_102 v315
  v316
def k0_mult8 (i : grid0.Coords) : BitVec 32 :=
  let c3968_i32_106 : BitVec 32 := 3968#32
  let c0_i32_105 : BitVec 32 := 0#32
  let arg1 : BitVec 32 := BitVec.ofNat 32 (i 1).val
  let c16_i32_97 : BitVec 32 := 16#32
  let v311 : BitVec 32 := Scalar.muli arg1 c16_i32_97
  let c2_i32_98 : BitVec 32 := 2#32
  let v312 : BitVec 32 := Scalar.addi v311 c2_i32_98
  let c0_i32_103 : BitVec 32 := 0#32
  let v318 : BitVec 32 := Scalar.addi v312 c0_i32_103
  let c128_i32_104 : BitVec 32 := 128#32
  let v319 : BitVec 32 := Scalar.muli v318 c128_i32_104
  let v320 : BitVec 32 := Scalar.maxsi c0_i32_105 v319
  let v321 : BitVec 32 := Scalar.minsi c3968_i32_106 v320
  v321
def k0_mult9 (i : grid0.Coords) : BitVec 32 :=
  let c3968_i32_110 : BitVec 32 := 3968#32
  let c0_i32_109 : BitVec 32 := 0#32
  let arg1 : BitVec 32 := BitVec.ofNat 32 (i 1).val
  let c16_i32_97 : BitVec 32 := 16#32
  let v311 : BitVec 32 := Scalar.muli arg1 c16_i32_97
  let c2_i32_98 : BitVec 32 := 2#32
  let v312 : BitVec 32 := Scalar.addi v311 c2_i32_98
  let c1_i32_107 : BitVec 32 := 1#32
  let v323 : BitVec 32 := Scalar.addi v312 c1_i32_107
  let c128_i32_108 : BitVec 32 := 128#32
  let v324 : BitVec 32 := Scalar.muli v323 c128_i32_108
  let v325 : BitVec 32 := Scalar.maxsi c0_i32_109 v324
  let v326 : BitVec 32 := Scalar.minsi c3968_i32_110 v325
  v326
def k0_mult10 (i : grid0.Coords) : BitVec 32 :=
  let c3968_i32_175 : BitVec 32 := 3968#32
  let c0_i32_174 : BitVec 32 := 0#32
  let arg1 : BitVec 32 := BitVec.ofNat 32 (i 1).val
  let c16_i32_171 : BitVec 32 := 16#32
  let v555 : BitVec 32 := Scalar.muli arg1 c16_i32_171
  let c3_i32 : BitVec 32 := 3#32
  let v556 : BitVec 32 := Scalar.addi v555 c3_i32
  let c_m1_i32_172 : BitVec 32 := 4294967295#32
  let v557 : BitVec 32 := Scalar.addi v556 c_m1_i32_172
  let c128_i32_173 : BitVec 32 := 128#32
  let v558 : BitVec 32 := Scalar.muli v557 c128_i32_173
  let v559 : BitVec 32 := Scalar.maxsi c0_i32_174 v558
  let v560 : BitVec 32 := Scalar.minsi c3968_i32_175 v559
  v560
def k0_mult11 (i : grid0.Coords) : BitVec 32 :=
  let c3968_i32_179 : BitVec 32 := 3968#32
  let c0_i32_178 : BitVec 32 := 0#32
  let arg1 : BitVec 32 := BitVec.ofNat 32 (i 1).val
  let c16_i32_171 : BitVec 32 := 16#32
  let v555 : BitVec 32 := Scalar.muli arg1 c16_i32_171
  let c3_i32 : BitVec 32 := 3#32
  let v556 : BitVec 32 := Scalar.addi v555 c3_i32
  let c0_i32_176 : BitVec 32 := 0#32
  let v562 : BitVec 32 := Scalar.addi v556 c0_i32_176
  let c128_i32_177 : BitVec 32 := 128#32
  let v563 : BitVec 32 := Scalar.muli v562 c128_i32_177
  let v564 : BitVec 32 := Scalar.maxsi c0_i32_178 v563
  let v565 : BitVec 32 := Scalar.minsi c3968_i32_179 v564
  v565
def k0_mult12 (i : grid0.Coords) : BitVec 32 :=
  let c3968_i32_183 : BitVec 32 := 3968#32
  let c0_i32_182 : BitVec 32 := 0#32
  let arg1 : BitVec 32 := BitVec.ofNat 32 (i 1).val
  let c16_i32_171 : BitVec 32 := 16#32
  let v555 : BitVec 32 := Scalar.muli arg1 c16_i32_171
  let c3_i32 : BitVec 32 := 3#32
  let v556 : BitVec 32 := Scalar.addi v555 c3_i32
  let c1_i32_180 : BitVec 32 := 1#32
  let v567 : BitVec 32 := Scalar.addi v556 c1_i32_180
  let c128_i32_181 : BitVec 32 := 128#32
  let v568 : BitVec 32 := Scalar.muli v567 c128_i32_181
  let v569 : BitVec 32 := Scalar.maxsi c0_i32_182 v568
  let v570 : BitVec 32 := Scalar.minsi c3968_i32_183 v569
  v570
def k0_mult13 (i : grid0.Coords) : BitVec 32 :=
  let c3968_i32_248 : BitVec 32 := 3968#32
  let c0_i32_247 : BitVec 32 := 0#32
  let arg1 : BitVec 32 := BitVec.ofNat 32 (i 1).val
  let c16_i32_244 : BitVec 32 := 16#32
  let v799 : BitVec 32 := Scalar.muli arg1 c16_i32_244
  let c4_i32 : BitVec 32 := 4#32
  let v800 : BitVec 32 := Scalar.addi v799 c4_i32
  let c_m1_i32_245 : BitVec 32 := 4294967295#32
  let v801 : BitVec 32 := Scalar.addi v800 c_m1_i32_245
  let c128_i32_246 : BitVec 32 := 128#32
  let v802 : BitVec 32 := Scalar.muli v801 c128_i32_246
  let v803 : BitVec 32 := Scalar.maxsi c0_i32_247 v802
  let v804 : BitVec 32 := Scalar.minsi c3968_i32_248 v803
  v804
def k0_mult14 (i : grid0.Coords) : BitVec 32 :=
  let c3968_i32_252 : BitVec 32 := 3968#32
  let c0_i32_251 : BitVec 32 := 0#32
  let arg1 : BitVec 32 := BitVec.ofNat 32 (i 1).val
  let c16_i32_244 : BitVec 32 := 16#32
  let v799 : BitVec 32 := Scalar.muli arg1 c16_i32_244
  let c4_i32 : BitVec 32 := 4#32
  let v800 : BitVec 32 := Scalar.addi v799 c4_i32
  let c0_i32_249 : BitVec 32 := 0#32
  let v806 : BitVec 32 := Scalar.addi v800 c0_i32_249
  let c128_i32_250 : BitVec 32 := 128#32
  let v807 : BitVec 32 := Scalar.muli v806 c128_i32_250
  let v808 : BitVec 32 := Scalar.maxsi c0_i32_251 v807
  let v809 : BitVec 32 := Scalar.minsi c3968_i32_252 v808
  v809
def k0_mult15 (i : grid0.Coords) : BitVec 32 :=
  let c3968_i32_256 : BitVec 32 := 3968#32
  let c0_i32_255 : BitVec 32 := 0#32
  let arg1 : BitVec 32 := BitVec.ofNat 32 (i 1).val
  let c16_i32_244 : BitVec 32 := 16#32
  let v799 : BitVec 32 := Scalar.muli arg1 c16_i32_244
  let c4_i32 : BitVec 32 := 4#32
  let v800 : BitVec 32 := Scalar.addi v799 c4_i32
  let c1_i32_253 : BitVec 32 := 1#32
  let v811 : BitVec 32 := Scalar.addi v800 c1_i32_253
  let c128_i32_254 : BitVec 32 := 128#32
  let v812 : BitVec 32 := Scalar.muli v811 c128_i32_254
  let v813 : BitVec 32 := Scalar.maxsi c0_i32_255 v812
  let v814 : BitVec 32 := Scalar.minsi c3968_i32_256 v813
  v814
def k0_mult16 (i : grid0.Coords) : BitVec 32 :=
  let c3968_i32_321 : BitVec 32 := 3968#32
  let c0_i32_320 : BitVec 32 := 0#32
  let arg1 : BitVec 32 := BitVec.ofNat 32 (i 1).val
  let c16_i32_317 : BitVec 32 := 16#32
  let v1043 : BitVec 32 := Scalar.muli arg1 c16_i32_317
  let c5_i32 : BitVec 32 := 5#32
  let v1044 : BitVec 32 := Scalar.addi v1043 c5_i32
  let c_m1_i32_318 : BitVec 32 := 4294967295#32
  let v1045 : BitVec 32 := Scalar.addi v1044 c_m1_i32_318
  let c128_i32_319 : BitVec 32 := 128#32
  let v1046 : BitVec 32 := Scalar.muli v1045 c128_i32_319
  let v1047 : BitVec 32 := Scalar.maxsi c0_i32_320 v1046
  let v1048 : BitVec 32 := Scalar.minsi c3968_i32_321 v1047
  v1048
def k0_mult17 (i : grid0.Coords) : BitVec 32 :=
  let c3968_i32_325 : BitVec 32 := 3968#32
  let c0_i32_324 : BitVec 32 := 0#32
  let arg1 : BitVec 32 := BitVec.ofNat 32 (i 1).val
  let c16_i32_317 : BitVec 32 := 16#32
  let v1043 : BitVec 32 := Scalar.muli arg1 c16_i32_317
  let c5_i32 : BitVec 32 := 5#32
  let v1044 : BitVec 32 := Scalar.addi v1043 c5_i32
  let c0_i32_322 : BitVec 32 := 0#32
  let v1050 : BitVec 32 := Scalar.addi v1044 c0_i32_322
  let c128_i32_323 : BitVec 32 := 128#32
  let v1051 : BitVec 32 := Scalar.muli v1050 c128_i32_323
  let v1052 : BitVec 32 := Scalar.maxsi c0_i32_324 v1051
  let v1053 : BitVec 32 := Scalar.minsi c3968_i32_325 v1052
  v1053
def k0_mult18 (i : grid0.Coords) : BitVec 32 :=
  let c3968_i32_329 : BitVec 32 := 3968#32
  let c0_i32_328 : BitVec 32 := 0#32
  let arg1 : BitVec 32 := BitVec.ofNat 32 (i 1).val
  let c16_i32_317 : BitVec 32 := 16#32
  let v1043 : BitVec 32 := Scalar.muli arg1 c16_i32_317
  let c5_i32 : BitVec 32 := 5#32
  let v1044 : BitVec 32 := Scalar.addi v1043 c5_i32
  let c1_i32_326 : BitVec 32 := 1#32
  let v1055 : BitVec 32 := Scalar.addi v1044 c1_i32_326
  let c128_i32_327 : BitVec 32 := 128#32
  let v1056 : BitVec 32 := Scalar.muli v1055 c128_i32_327
  let v1057 : BitVec 32 := Scalar.maxsi c0_i32_328 v1056
  let v1058 : BitVec 32 := Scalar.minsi c3968_i32_329 v1057
  v1058
def k0_mult19 (i : grid0.Coords) : BitVec 32 :=
  let c3968_i32_394 : BitVec 32 := 3968#32
  let c0_i32_393 : BitVec 32 := 0#32
  let arg1 : BitVec 32 := BitVec.ofNat 32 (i 1).val
  let c16_i32_390 : BitVec 32 := 16#32
  let v1287 : BitVec 32 := Scalar.muli arg1 c16_i32_390
  let c6_i32 : BitVec 32 := 6#32
  let v1288 : BitVec 32 := Scalar.addi v1287 c6_i32
  let c_m1_i32_391 : BitVec 32 := 4294967295#32
  let v1289 : BitVec 32 := Scalar.addi v1288 c_m1_i32_391
  let c128_i32_392 : BitVec 32 := 128#32
  let v1290 : BitVec 32 := Scalar.muli v1289 c128_i32_392
  let v1291 : BitVec 32 := Scalar.maxsi c0_i32_393 v1290
  let v1292 : BitVec 32 := Scalar.minsi c3968_i32_394 v1291
  v1292
def k0_mult20 (i : grid0.Coords) : BitVec 32 :=
  let c3968_i32_398 : BitVec 32 := 3968#32
  let c0_i32_397 : BitVec 32 := 0#32
  let arg1 : BitVec 32 := BitVec.ofNat 32 (i 1).val
  let c16_i32_390 : BitVec 32 := 16#32
  let v1287 : BitVec 32 := Scalar.muli arg1 c16_i32_390
  let c6_i32 : BitVec 32 := 6#32
  let v1288 : BitVec 32 := Scalar.addi v1287 c6_i32
  let c0_i32_395 : BitVec 32 := 0#32
  let v1294 : BitVec 32 := Scalar.addi v1288 c0_i32_395
  let c128_i32_396 : BitVec 32 := 128#32
  let v1295 : BitVec 32 := Scalar.muli v1294 c128_i32_396
  let v1296 : BitVec 32 := Scalar.maxsi c0_i32_397 v1295
  let v1297 : BitVec 32 := Scalar.minsi c3968_i32_398 v1296
  v1297
def k0_mult21 (i : grid0.Coords) : BitVec 32 :=
  let c3968_i32_402 : BitVec 32 := 3968#32
  let c0_i32_401 : BitVec 32 := 0#32
  let arg1 : BitVec 32 := BitVec.ofNat 32 (i 1).val
  let c16_i32_390 : BitVec 32 := 16#32
  let v1287 : BitVec 32 := Scalar.muli arg1 c16_i32_390
  let c6_i32 : BitVec 32 := 6#32
  let v1288 : BitVec 32 := Scalar.addi v1287 c6_i32
  let c1_i32_399 : BitVec 32 := 1#32
  let v1299 : BitVec 32 := Scalar.addi v1288 c1_i32_399
  let c128_i32_400 : BitVec 32 := 128#32
  let v1300 : BitVec 32 := Scalar.muli v1299 c128_i32_400
  let v1301 : BitVec 32 := Scalar.maxsi c0_i32_401 v1300
  let v1302 : BitVec 32 := Scalar.minsi c3968_i32_402 v1301
  v1302
def k0_mult22 (i : grid0.Coords) : BitVec 32 :=
  let c3968_i32_467 : BitVec 32 := 3968#32
  let c0_i32_466 : BitVec 32 := 0#32
  let arg1 : BitVec 32 := BitVec.ofNat 32 (i 1).val
  let c16_i32_463 : BitVec 32 := 16#32
  let v1531 : BitVec 32 := Scalar.muli arg1 c16_i32_463
  let c7_i32 : BitVec 32 := 7#32
  let v1532 : BitVec 32 := Scalar.addi v1531 c7_i32
  let c_m1_i32_464 : BitVec 32 := 4294967295#32
  let v1533 : BitVec 32 := Scalar.addi v1532 c_m1_i32_464
  let c128_i32_465 : BitVec 32 := 128#32
  let v1534 : BitVec 32 := Scalar.muli v1533 c128_i32_465
  let v1535 : BitVec 32 := Scalar.maxsi c0_i32_466 v1534
  let v1536 : BitVec 32 := Scalar.minsi c3968_i32_467 v1535
  v1536
def k0_mult23 (i : grid0.Coords) : BitVec 32 :=
  let c3968_i32_471 : BitVec 32 := 3968#32
  let c0_i32_470 : BitVec 32 := 0#32
  let arg1 : BitVec 32 := BitVec.ofNat 32 (i 1).val
  let c16_i32_463 : BitVec 32 := 16#32
  let v1531 : BitVec 32 := Scalar.muli arg1 c16_i32_463
  let c7_i32 : BitVec 32 := 7#32
  let v1532 : BitVec 32 := Scalar.addi v1531 c7_i32
  let c0_i32_468 : BitVec 32 := 0#32
  let v1538 : BitVec 32 := Scalar.addi v1532 c0_i32_468
  let c128_i32_469 : BitVec 32 := 128#32
  let v1539 : BitVec 32 := Scalar.muli v1538 c128_i32_469
  let v1540 : BitVec 32 := Scalar.maxsi c0_i32_470 v1539
  let v1541 : BitVec 32 := Scalar.minsi c3968_i32_471 v1540
  v1541
def k0_mult24 (i : grid0.Coords) : BitVec 32 :=
  let c3968_i32_475 : BitVec 32 := 3968#32
  let c0_i32_474 : BitVec 32 := 0#32
  let arg1 : BitVec 32 := BitVec.ofNat 32 (i 1).val
  let c16_i32_463 : BitVec 32 := 16#32
  let v1531 : BitVec 32 := Scalar.muli arg1 c16_i32_463
  let c7_i32 : BitVec 32 := 7#32
  let v1532 : BitVec 32 := Scalar.addi v1531 c7_i32
  let c1_i32_472 : BitVec 32 := 1#32
  let v1543 : BitVec 32 := Scalar.addi v1532 c1_i32_472
  let c128_i32_473 : BitVec 32 := 128#32
  let v1544 : BitVec 32 := Scalar.muli v1543 c128_i32_473
  let v1545 : BitVec 32 := Scalar.maxsi c0_i32_474 v1544
  let v1546 : BitVec 32 := Scalar.minsi c3968_i32_475 v1545
  v1546
def k0_mult25 (i : grid0.Coords) : BitVec 32 :=
  let c3968_i32_540 : BitVec 32 := 3968#32
  let c0_i32_539 : BitVec 32 := 0#32
  let arg1 : BitVec 32 := BitVec.ofNat 32 (i 1).val
  let c16_i32_536 : BitVec 32 := 16#32
  let v1775 : BitVec 32 := Scalar.muli arg1 c16_i32_536
  let c8_i32 : BitVec 32 := 8#32
  let v1776 : BitVec 32 := Scalar.addi v1775 c8_i32
  let c_m1_i32_537 : BitVec 32 := 4294967295#32
  let v1777 : BitVec 32 := Scalar.addi v1776 c_m1_i32_537
  let c128_i32_538 : BitVec 32 := 128#32
  let v1778 : BitVec 32 := Scalar.muli v1777 c128_i32_538
  let v1779 : BitVec 32 := Scalar.maxsi c0_i32_539 v1778
  let v1780 : BitVec 32 := Scalar.minsi c3968_i32_540 v1779
  v1780
def k0_mult26 (i : grid0.Coords) : BitVec 32 :=
  let c3968_i32_544 : BitVec 32 := 3968#32
  let c0_i32_543 : BitVec 32 := 0#32
  let arg1 : BitVec 32 := BitVec.ofNat 32 (i 1).val
  let c16_i32_536 : BitVec 32 := 16#32
  let v1775 : BitVec 32 := Scalar.muli arg1 c16_i32_536
  let c8_i32 : BitVec 32 := 8#32
  let v1776 : BitVec 32 := Scalar.addi v1775 c8_i32
  let c0_i32_541 : BitVec 32 := 0#32
  let v1782 : BitVec 32 := Scalar.addi v1776 c0_i32_541
  let c128_i32_542 : BitVec 32 := 128#32
  let v1783 : BitVec 32 := Scalar.muli v1782 c128_i32_542
  let v1784 : BitVec 32 := Scalar.maxsi c0_i32_543 v1783
  let v1785 : BitVec 32 := Scalar.minsi c3968_i32_544 v1784
  v1785
def k0_mult27 (i : grid0.Coords) : BitVec 32 :=
  let c3968_i32_548 : BitVec 32 := 3968#32
  let c0_i32_547 : BitVec 32 := 0#32
  let arg1 : BitVec 32 := BitVec.ofNat 32 (i 1).val
  let c16_i32_536 : BitVec 32 := 16#32
  let v1775 : BitVec 32 := Scalar.muli arg1 c16_i32_536
  let c8_i32 : BitVec 32 := 8#32
  let v1776 : BitVec 32 := Scalar.addi v1775 c8_i32
  let c1_i32_545 : BitVec 32 := 1#32
  let v1787 : BitVec 32 := Scalar.addi v1776 c1_i32_545
  let c128_i32_546 : BitVec 32 := 128#32
  let v1788 : BitVec 32 := Scalar.muli v1787 c128_i32_546
  let v1789 : BitVec 32 := Scalar.maxsi c0_i32_547 v1788
  let v1790 : BitVec 32 := Scalar.minsi c3968_i32_548 v1789
  v1790
def k0_mult28 (i : grid0.Coords) : BitVec 32 :=
  let c3968_i32_613 : BitVec 32 := 3968#32
  let c0_i32_612 : BitVec 32 := 0#32
  let arg1 : BitVec 32 := BitVec.ofNat 32 (i 1).val
  let c16_i32_609 : BitVec 32 := 16#32
  let v2019 : BitVec 32 := Scalar.muli arg1 c16_i32_609
  let c9_i32 : BitVec 32 := 9#32
  let v2020 : BitVec 32 := Scalar.addi v2019 c9_i32
  let c_m1_i32_610 : BitVec 32 := 4294967295#32
  let v2021 : BitVec 32 := Scalar.addi v2020 c_m1_i32_610
  let c128_i32_611 : BitVec 32 := 128#32
  let v2022 : BitVec 32 := Scalar.muli v2021 c128_i32_611
  let v2023 : BitVec 32 := Scalar.maxsi c0_i32_612 v2022
  let v2024 : BitVec 32 := Scalar.minsi c3968_i32_613 v2023
  v2024
def k0_mult29 (i : grid0.Coords) : BitVec 32 :=
  let c3968_i32_617 : BitVec 32 := 3968#32
  let c0_i32_616 : BitVec 32 := 0#32
  let arg1 : BitVec 32 := BitVec.ofNat 32 (i 1).val
  let c16_i32_609 : BitVec 32 := 16#32
  let v2019 : BitVec 32 := Scalar.muli arg1 c16_i32_609
  let c9_i32 : BitVec 32 := 9#32
  let v2020 : BitVec 32 := Scalar.addi v2019 c9_i32
  let c0_i32_614 : BitVec 32 := 0#32
  let v2026 : BitVec 32 := Scalar.addi v2020 c0_i32_614
  let c128_i32_615 : BitVec 32 := 128#32
  let v2027 : BitVec 32 := Scalar.muli v2026 c128_i32_615
  let v2028 : BitVec 32 := Scalar.maxsi c0_i32_616 v2027
  let v2029 : BitVec 32 := Scalar.minsi c3968_i32_617 v2028
  v2029
def k0_mult30 (i : grid0.Coords) : BitVec 32 :=
  let c3968_i32_621 : BitVec 32 := 3968#32
  let c0_i32_620 : BitVec 32 := 0#32
  let arg1 : BitVec 32 := BitVec.ofNat 32 (i 1).val
  let c16_i32_609 : BitVec 32 := 16#32
  let v2019 : BitVec 32 := Scalar.muli arg1 c16_i32_609
  let c9_i32 : BitVec 32 := 9#32
  let v2020 : BitVec 32 := Scalar.addi v2019 c9_i32
  let c1_i32_618 : BitVec 32 := 1#32
  let v2031 : BitVec 32 := Scalar.addi v2020 c1_i32_618
  let c128_i32_619 : BitVec 32 := 128#32
  let v2032 : BitVec 32 := Scalar.muli v2031 c128_i32_619
  let v2033 : BitVec 32 := Scalar.maxsi c0_i32_620 v2032
  let v2034 : BitVec 32 := Scalar.minsi c3968_i32_621 v2033
  v2034
def k0_mult31 (i : grid0.Coords) : BitVec 32 :=
  let c3968_i32_686 : BitVec 32 := 3968#32
  let c0_i32_685 : BitVec 32 := 0#32
  let arg1 : BitVec 32 := BitVec.ofNat 32 (i 1).val
  let c16_i32_682 : BitVec 32 := 16#32
  let v2263 : BitVec 32 := Scalar.muli arg1 c16_i32_682
  let c10_i32 : BitVec 32 := 10#32
  let v2264 : BitVec 32 := Scalar.addi v2263 c10_i32
  let c_m1_i32_683 : BitVec 32 := 4294967295#32
  let v2265 : BitVec 32 := Scalar.addi v2264 c_m1_i32_683
  let c128_i32_684 : BitVec 32 := 128#32
  let v2266 : BitVec 32 := Scalar.muli v2265 c128_i32_684
  let v2267 : BitVec 32 := Scalar.maxsi c0_i32_685 v2266
  let v2268 : BitVec 32 := Scalar.minsi c3968_i32_686 v2267
  v2268
def k0_mult32 (i : grid0.Coords) : BitVec 32 :=
  let c3968_i32_690 : BitVec 32 := 3968#32
  let c0_i32_689 : BitVec 32 := 0#32
  let arg1 : BitVec 32 := BitVec.ofNat 32 (i 1).val
  let c16_i32_682 : BitVec 32 := 16#32
  let v2263 : BitVec 32 := Scalar.muli arg1 c16_i32_682
  let c10_i32 : BitVec 32 := 10#32
  let v2264 : BitVec 32 := Scalar.addi v2263 c10_i32
  let c0_i32_687 : BitVec 32 := 0#32
  let v2270 : BitVec 32 := Scalar.addi v2264 c0_i32_687
  let c128_i32_688 : BitVec 32 := 128#32
  let v2271 : BitVec 32 := Scalar.muli v2270 c128_i32_688
  let v2272 : BitVec 32 := Scalar.maxsi c0_i32_689 v2271
  let v2273 : BitVec 32 := Scalar.minsi c3968_i32_690 v2272
  v2273
def k0_mult33 (i : grid0.Coords) : BitVec 32 :=
  let c3968_i32_694 : BitVec 32 := 3968#32
  let c0_i32_693 : BitVec 32 := 0#32
  let arg1 : BitVec 32 := BitVec.ofNat 32 (i 1).val
  let c16_i32_682 : BitVec 32 := 16#32
  let v2263 : BitVec 32 := Scalar.muli arg1 c16_i32_682
  let c10_i32 : BitVec 32 := 10#32
  let v2264 : BitVec 32 := Scalar.addi v2263 c10_i32
  let c1_i32_691 : BitVec 32 := 1#32
  let v2275 : BitVec 32 := Scalar.addi v2264 c1_i32_691
  let c128_i32_692 : BitVec 32 := 128#32
  let v2276 : BitVec 32 := Scalar.muli v2275 c128_i32_692
  let v2277 : BitVec 32 := Scalar.maxsi c0_i32_693 v2276
  let v2278 : BitVec 32 := Scalar.minsi c3968_i32_694 v2277
  v2278
def k0_mult34 (i : grid0.Coords) : BitVec 32 :=
  let c3968_i32_759 : BitVec 32 := 3968#32
  let c0_i32_758 : BitVec 32 := 0#32
  let arg1 : BitVec 32 := BitVec.ofNat 32 (i 1).val
  let c16_i32_755 : BitVec 32 := 16#32
  let v2507 : BitVec 32 := Scalar.muli arg1 c16_i32_755
  let c11_i32 : BitVec 32 := 11#32
  let v2508 : BitVec 32 := Scalar.addi v2507 c11_i32
  let c_m1_i32_756 : BitVec 32 := 4294967295#32
  let v2509 : BitVec 32 := Scalar.addi v2508 c_m1_i32_756
  let c128_i32_757 : BitVec 32 := 128#32
  let v2510 : BitVec 32 := Scalar.muli v2509 c128_i32_757
  let v2511 : BitVec 32 := Scalar.maxsi c0_i32_758 v2510
  let v2512 : BitVec 32 := Scalar.minsi c3968_i32_759 v2511
  v2512
def k0_mult35 (i : grid0.Coords) : BitVec 32 :=
  let c3968_i32_763 : BitVec 32 := 3968#32
  let c0_i32_762 : BitVec 32 := 0#32
  let arg1 : BitVec 32 := BitVec.ofNat 32 (i 1).val
  let c16_i32_755 : BitVec 32 := 16#32
  let v2507 : BitVec 32 := Scalar.muli arg1 c16_i32_755
  let c11_i32 : BitVec 32 := 11#32
  let v2508 : BitVec 32 := Scalar.addi v2507 c11_i32
  let c0_i32_760 : BitVec 32 := 0#32
  let v2514 : BitVec 32 := Scalar.addi v2508 c0_i32_760
  let c128_i32_761 : BitVec 32 := 128#32
  let v2515 : BitVec 32 := Scalar.muli v2514 c128_i32_761
  let v2516 : BitVec 32 := Scalar.maxsi c0_i32_762 v2515
  let v2517 : BitVec 32 := Scalar.minsi c3968_i32_763 v2516
  v2517
def k0_mult36 (i : grid0.Coords) : BitVec 32 :=
  let c3968_i32_767 : BitVec 32 := 3968#32
  let c0_i32_766 : BitVec 32 := 0#32
  let arg1 : BitVec 32 := BitVec.ofNat 32 (i 1).val
  let c16_i32_755 : BitVec 32 := 16#32
  let v2507 : BitVec 32 := Scalar.muli arg1 c16_i32_755
  let c11_i32 : BitVec 32 := 11#32
  let v2508 : BitVec 32 := Scalar.addi v2507 c11_i32
  let c1_i32_764 : BitVec 32 := 1#32
  let v2519 : BitVec 32 := Scalar.addi v2508 c1_i32_764
  let c128_i32_765 : BitVec 32 := 128#32
  let v2520 : BitVec 32 := Scalar.muli v2519 c128_i32_765
  let v2521 : BitVec 32 := Scalar.maxsi c0_i32_766 v2520
  let v2522 : BitVec 32 := Scalar.minsi c3968_i32_767 v2521
  v2522
def k0_mult37 (i : grid0.Coords) : BitVec 32 :=
  let c3968_i32_832 : BitVec 32 := 3968#32
  let c0_i32_831 : BitVec 32 := 0#32
  let arg1 : BitVec 32 := BitVec.ofNat 32 (i 1).val
  let c16_i32_828 : BitVec 32 := 16#32
  let v2751 : BitVec 32 := Scalar.muli arg1 c16_i32_828
  let c12_i32 : BitVec 32 := 12#32
  let v2752 : BitVec 32 := Scalar.addi v2751 c12_i32
  let c_m1_i32_829 : BitVec 32 := 4294967295#32
  let v2753 : BitVec 32 := Scalar.addi v2752 c_m1_i32_829
  let c128_i32_830 : BitVec 32 := 128#32
  let v2754 : BitVec 32 := Scalar.muli v2753 c128_i32_830
  let v2755 : BitVec 32 := Scalar.maxsi c0_i32_831 v2754
  let v2756 : BitVec 32 := Scalar.minsi c3968_i32_832 v2755
  v2756
def k0_mult38 (i : grid0.Coords) : BitVec 32 :=
  let c3968_i32_836 : BitVec 32 := 3968#32
  let c0_i32_835 : BitVec 32 := 0#32
  let arg1 : BitVec 32 := BitVec.ofNat 32 (i 1).val
  let c16_i32_828 : BitVec 32 := 16#32
  let v2751 : BitVec 32 := Scalar.muli arg1 c16_i32_828
  let c12_i32 : BitVec 32 := 12#32
  let v2752 : BitVec 32 := Scalar.addi v2751 c12_i32
  let c0_i32_833 : BitVec 32 := 0#32
  let v2758 : BitVec 32 := Scalar.addi v2752 c0_i32_833
  let c128_i32_834 : BitVec 32 := 128#32
  let v2759 : BitVec 32 := Scalar.muli v2758 c128_i32_834
  let v2760 : BitVec 32 := Scalar.maxsi c0_i32_835 v2759
  let v2761 : BitVec 32 := Scalar.minsi c3968_i32_836 v2760
  v2761
def k0_mult39 (i : grid0.Coords) : BitVec 32 :=
  let c3968_i32_840 : BitVec 32 := 3968#32
  let c0_i32_839 : BitVec 32 := 0#32
  let arg1 : BitVec 32 := BitVec.ofNat 32 (i 1).val
  let c16_i32_828 : BitVec 32 := 16#32
  let v2751 : BitVec 32 := Scalar.muli arg1 c16_i32_828
  let c12_i32 : BitVec 32 := 12#32
  let v2752 : BitVec 32 := Scalar.addi v2751 c12_i32
  let c1_i32_837 : BitVec 32 := 1#32
  let v2763 : BitVec 32 := Scalar.addi v2752 c1_i32_837
  let c128_i32_838 : BitVec 32 := 128#32
  let v2764 : BitVec 32 := Scalar.muli v2763 c128_i32_838
  let v2765 : BitVec 32 := Scalar.maxsi c0_i32_839 v2764
  let v2766 : BitVec 32 := Scalar.minsi c3968_i32_840 v2765
  v2766
def k0_mult40 (i : grid0.Coords) : BitVec 32 :=
  let c3968_i32_905 : BitVec 32 := 3968#32
  let c0_i32_904 : BitVec 32 := 0#32
  let arg1 : BitVec 32 := BitVec.ofNat 32 (i 1).val
  let c16_i32_901 : BitVec 32 := 16#32
  let v2995 : BitVec 32 := Scalar.muli arg1 c16_i32_901
  let c13_i32 : BitVec 32 := 13#32
  let v2996 : BitVec 32 := Scalar.addi v2995 c13_i32
  let c_m1_i32_902 : BitVec 32 := 4294967295#32
  let v2997 : BitVec 32 := Scalar.addi v2996 c_m1_i32_902
  let c128_i32_903 : BitVec 32 := 128#32
  let v2998 : BitVec 32 := Scalar.muli v2997 c128_i32_903
  let v2999 : BitVec 32 := Scalar.maxsi c0_i32_904 v2998
  let v3000 : BitVec 32 := Scalar.minsi c3968_i32_905 v2999
  v3000
def k0_mult41 (i : grid0.Coords) : BitVec 32 :=
  let c3968_i32_909 : BitVec 32 := 3968#32
  let c0_i32_908 : BitVec 32 := 0#32
  let arg1 : BitVec 32 := BitVec.ofNat 32 (i 1).val
  let c16_i32_901 : BitVec 32 := 16#32
  let v2995 : BitVec 32 := Scalar.muli arg1 c16_i32_901
  let c13_i32 : BitVec 32 := 13#32
  let v2996 : BitVec 32 := Scalar.addi v2995 c13_i32
  let c0_i32_906 : BitVec 32 := 0#32
  let v3002 : BitVec 32 := Scalar.addi v2996 c0_i32_906
  let c128_i32_907 : BitVec 32 := 128#32
  let v3003 : BitVec 32 := Scalar.muli v3002 c128_i32_907
  let v3004 : BitVec 32 := Scalar.maxsi c0_i32_908 v3003
  let v3005 : BitVec 32 := Scalar.minsi c3968_i32_909 v3004
  v3005
def k0_mult42 (i : grid0.Coords) : BitVec 32 :=
  let c3968_i32_913 : BitVec 32 := 3968#32
  let c0_i32_912 : BitVec 32 := 0#32
  let arg1 : BitVec 32 := BitVec.ofNat 32 (i 1).val
  let c16_i32_901 : BitVec 32 := 16#32
  let v2995 : BitVec 32 := Scalar.muli arg1 c16_i32_901
  let c13_i32 : BitVec 32 := 13#32
  let v2996 : BitVec 32 := Scalar.addi v2995 c13_i32
  let c1_i32_910 : BitVec 32 := 1#32
  let v3007 : BitVec 32 := Scalar.addi v2996 c1_i32_910
  let c128_i32_911 : BitVec 32 := 128#32
  let v3008 : BitVec 32 := Scalar.muli v3007 c128_i32_911
  let v3009 : BitVec 32 := Scalar.maxsi c0_i32_912 v3008
  let v3010 : BitVec 32 := Scalar.minsi c3968_i32_913 v3009
  v3010
def k0_mult43 (i : grid0.Coords) : BitVec 32 :=
  let c3968_i32_978 : BitVec 32 := 3968#32
  let c0_i32_977 : BitVec 32 := 0#32
  let arg1 : BitVec 32 := BitVec.ofNat 32 (i 1).val
  let c16_i32_974 : BitVec 32 := 16#32
  let v3239 : BitVec 32 := Scalar.muli arg1 c16_i32_974
  let c14_i32 : BitVec 32 := 14#32
  let v3240 : BitVec 32 := Scalar.addi v3239 c14_i32
  let c_m1_i32_975 : BitVec 32 := 4294967295#32
  let v3241 : BitVec 32 := Scalar.addi v3240 c_m1_i32_975
  let c128_i32_976 : BitVec 32 := 128#32
  let v3242 : BitVec 32 := Scalar.muli v3241 c128_i32_976
  let v3243 : BitVec 32 := Scalar.maxsi c0_i32_977 v3242
  let v3244 : BitVec 32 := Scalar.minsi c3968_i32_978 v3243
  v3244
def k0_mult44 (i : grid0.Coords) : BitVec 32 :=
  let c3968_i32_982 : BitVec 32 := 3968#32
  let c0_i32_981 : BitVec 32 := 0#32
  let arg1 : BitVec 32 := BitVec.ofNat 32 (i 1).val
  let c16_i32_974 : BitVec 32 := 16#32
  let v3239 : BitVec 32 := Scalar.muli arg1 c16_i32_974
  let c14_i32 : BitVec 32 := 14#32
  let v3240 : BitVec 32 := Scalar.addi v3239 c14_i32
  let c0_i32_979 : BitVec 32 := 0#32
  let v3246 : BitVec 32 := Scalar.addi v3240 c0_i32_979
  let c128_i32_980 : BitVec 32 := 128#32
  let v3247 : BitVec 32 := Scalar.muli v3246 c128_i32_980
  let v3248 : BitVec 32 := Scalar.maxsi c0_i32_981 v3247
  let v3249 : BitVec 32 := Scalar.minsi c3968_i32_982 v3248
  v3249
def k0_mult45 (i : grid0.Coords) : BitVec 32 :=
  let c3968_i32_986 : BitVec 32 := 3968#32
  let c0_i32_985 : BitVec 32 := 0#32
  let arg1 : BitVec 32 := BitVec.ofNat 32 (i 1).val
  let c16_i32_974 : BitVec 32 := 16#32
  let v3239 : BitVec 32 := Scalar.muli arg1 c16_i32_974
  let c14_i32 : BitVec 32 := 14#32
  let v3240 : BitVec 32 := Scalar.addi v3239 c14_i32
  let c1_i32_983 : BitVec 32 := 1#32
  let v3251 : BitVec 32 := Scalar.addi v3240 c1_i32_983
  let c128_i32_984 : BitVec 32 := 128#32
  let v3252 : BitVec 32 := Scalar.muli v3251 c128_i32_984
  let v3253 : BitVec 32 := Scalar.maxsi c0_i32_985 v3252
  let v3254 : BitVec 32 := Scalar.minsi c3968_i32_986 v3253
  v3254
def k0_mult46 (i : grid0.Coords) : BitVec 32 :=
  let c3968_i32_1051 : BitVec 32 := 3968#32
  let c0_i32_1050 : BitVec 32 := 0#32
  let arg1 : BitVec 32 := BitVec.ofNat 32 (i 1).val
  let c16_i32_1047 : BitVec 32 := 16#32
  let v3483 : BitVec 32 := Scalar.muli arg1 c16_i32_1047
  let c15_i32 : BitVec 32 := 15#32
  let v3484 : BitVec 32 := Scalar.addi v3483 c15_i32
  let c_m1_i32_1048 : BitVec 32 := 4294967295#32
  let v3485 : BitVec 32 := Scalar.addi v3484 c_m1_i32_1048
  let c128_i32_1049 : BitVec 32 := 128#32
  let v3486 : BitVec 32 := Scalar.muli v3485 c128_i32_1049
  let v3487 : BitVec 32 := Scalar.maxsi c0_i32_1050 v3486
  let v3488 : BitVec 32 := Scalar.minsi c3968_i32_1051 v3487
  v3488
def k0_mult47 (i : grid0.Coords) : BitVec 32 :=
  let c3968_i32_1055 : BitVec 32 := 3968#32
  let c0_i32_1054 : BitVec 32 := 0#32
  let arg1 : BitVec 32 := BitVec.ofNat 32 (i 1).val
  let c16_i32_1047 : BitVec 32 := 16#32
  let v3483 : BitVec 32 := Scalar.muli arg1 c16_i32_1047
  let c15_i32 : BitVec 32 := 15#32
  let v3484 : BitVec 32 := Scalar.addi v3483 c15_i32
  let c0_i32_1052 : BitVec 32 := 0#32
  let v3490 : BitVec 32 := Scalar.addi v3484 c0_i32_1052
  let c128_i32_1053 : BitVec 32 := 128#32
  let v3491 : BitVec 32 := Scalar.muli v3490 c128_i32_1053
  let v3492 : BitVec 32 := Scalar.maxsi c0_i32_1054 v3491
  let v3493 : BitVec 32 := Scalar.minsi c3968_i32_1055 v3492
  v3493
def k0_mult48 (i : grid0.Coords) : BitVec 32 :=
  let c3968_i32_1059 : BitVec 32 := 3968#32
  let c0_i32_1058 : BitVec 32 := 0#32
  let arg1 : BitVec 32 := BitVec.ofNat 32 (i 1).val
  let c16_i32_1047 : BitVec 32 := 16#32
  let v3483 : BitVec 32 := Scalar.muli arg1 c16_i32_1047
  let c15_i32 : BitVec 32 := 15#32
  let v3484 : BitVec 32 := Scalar.addi v3483 c15_i32
  let c1_i32_1056 : BitVec 32 := 1#32
  let v3495 : BitVec 32 := Scalar.addi v3484 c1_i32_1056
  let c128_i32_1057 : BitVec 32 := 128#32
  let v3496 : BitVec 32 := Scalar.muli v3495 c128_i32_1057
  let v3497 : BitVec 32 := Scalar.maxsi c0_i32_1058 v3496
  let v3498 : BitVec 32 := Scalar.minsi c3968_i32_1059 v3497
  v3498
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S3x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16x4096x768 : Shape := ⟨3, ![16, 4096, 768]⟩
abbrev S32x8 : Shape := ⟨2, ![32, 8]⟩
abbrev S1x8 : Shape := ⟨2, ![1, 8]⟩
abbrev S16x4096x512 : Shape := ⟨3, ![16, 4096, 512]⟩
abbrev S16x32x128x2x4x64 : Shape := ⟨6, ![16, 32, 128, 2, 4, 64]⟩
abbrev S16x4096x128 : Shape := ⟨3, ![16, 4096, 128]⟩
abbrev S_ : Shape := ⟨0, ![]⟩
abbrev S16x4352x128 : Shape := ⟨3, ![16, 4352, 128]⟩
abbrev S16x34x128x2x64 : Shape := ⟨5, ![16, 34, 128, 2, 64]⟩
abbrev S16x32x128x2x64 : Shape := ⟨5, ![16, 32, 128, 2, 64]⟩
abbrev S16x32x384x2x64 : Shape := ⟨5, ![16, 32, 384, 2, 64]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S2x4x128x384 : Shape := ⟨4, ![2, 4, 128, 384]⟩
abbrev S8 : Shape := ⟨1, ![8]⟩
abbrev S2x4x1 : Shape := ⟨3, ![2, 4, 1]⟩
abbrev S32 : Shape := ⟨1, ![32]⟩
abbrev S32x1 : Shape := ⟨2, ![32, 1]⟩
abbrev S32x384 : Shape := ⟨2, ![32, 384]⟩
abbrev S1x128x384 : Shape := ⟨3, ![1, 128, 384]⟩
abbrev S32x1x384 : Shape := ⟨3, ![32, 1, 384]⟩
abbrev S32x128x384 : Shape := ⟨3, ![32, 128, 384]⟩
abbrev S16x32x2x384x128x4 : Shape := ⟨6, ![16, 32, 2, 384, 128, 4]⟩
abbrev S16x32x2x4x128x384 : Shape := ⟨6, ![16, 32, 2, 4, 128, 384]⟩
abbrev S1x1x2x4x128x384 : Shape := ⟨6, ![1, 1, 2, 4, 128, 384]⟩
abbrev S1x32x1x1x128x384 : Shape := ⟨6, ![1, 32, 1, 1, 128, 384]⟩
abbrev S16x32x2x4x128 : Shape := ⟨5, ![16, 32, 2, 4, 128]⟩
abbrev S1x1x2x4x1 : Shape := ⟨5, ![1, 1, 2, 4, 1]⟩
abbrev S16x32x2x4x128x1 : Shape := ⟨6, ![16, 32, 2, 4, 128, 1]⟩
abbrev S16x32x2x64x4x128 : Shape := ⟨6, ![16, 32, 2, 64, 4, 128]⟩
abbrev S16x32x128x4x2x64 : Shape := ⟨6, ![16, 32, 128, 4, 2, 64]⟩

abbrev nBuf : Space → Nat
  | .hbm => 148
  | .vmem => 0
  | .smem => 0
  | _ => 0

abbrev hbmTy0_0 (i : Nat) : BufTy := match i % 128 with
  | 0 => ⟨S16x4096x768, .f32⟩
  | 1 => ⟨S32x8, .f32⟩
  | 2 => ⟨S1x8, .f32⟩
  | 3 => ⟨S16x4096x512, .f32⟩
  | 4 => ⟨S16x32x128x2x4x64, .f32⟩
  | 5 => ⟨S16x4096x128, .f32⟩
  | 6 => ⟨S_, .i32⟩
  | 7 => ⟨S_, .f32⟩
  | 8 => ⟨S16x4352x128, .f32⟩
  | 9 => ⟨S16x34x128x2x64, .f32⟩
  | 10 => ⟨S16x4096x128, .f32⟩
  | 11 => ⟨S_, .i32⟩
  | 12 => ⟨S_, .f32⟩
  | 13 => ⟨S16x4352x128, .f32⟩
  | 14 => ⟨S16x34x128x2x64, .f32⟩
  | 15 => ⟨S16x32x128x2x64, .f32⟩
  | 16 => ⟨S16x32x128x2x64, .f32⟩
  | 17 => ⟨S16x32x128x2x64, .f32⟩
  | 18 => ⟨S16x32x384x2x64, .f32⟩
  | 19 => ⟨S16x32x128x2x64, .f32⟩
  | 20 => ⟨S16x32x128x2x64, .f32⟩
  | 21 => ⟨S16x32x128x2x64, .f32⟩
  | 22 => ⟨S16x32x384x2x64, .f32⟩
  | 23 => ⟨S384, .i32⟩
  | 24 => ⟨S1x384, .i32⟩
  | 25 => ⟨S_, .i32⟩
  | 26 => ⟨S1x384, .i32⟩
  | 27 => ⟨S1x384, .i32⟩
  | 28 => ⟨S128, .i32⟩
  | 29 => ⟨S128x1, .i32⟩
  | 30 => ⟨S128x384, .i32⟩
  | 31 => ⟨S128x384, .i32⟩
  | 32 => ⟨S128x384, .i32⟩
  | 33 => ⟨S128x384, .i32⟩
  | 34 => ⟨S_, .i32⟩
  | 35 => ⟨S128x384, .i32⟩
  | 36 => ⟨S128x384, .i1⟩
  | 37 => ⟨S_, .i32⟩
  | 38 => ⟨S128x384, .i32⟩
  | 39 => ⟨S128x384, .i1⟩
  | 40 => ⟨S_, .i32⟩
  | 41 => ⟨S_, .i32⟩
  | 42 => ⟨S128x384, .i32⟩
  | 43 => ⟨S128x384, .i32⟩
  | 44 => ⟨S128x384, .i32⟩
  | 45 => ⟨S128x384, .i32⟩
  | 46 => ⟨S_, .i32⟩
  | 47 => ⟨S128x384, .i32⟩
  | 48 => ⟨S128x384, .i32⟩
  | 49 => ⟨S128x384, .f32⟩
  | 50 => ⟨S_, .f32⟩
  | 51 => ⟨S128x384, .f32⟩
  | 52 => ⟨S128x384, .f32⟩
  | 53 => ⟨S128x384, .f32⟩
  | 54 => ⟨S_, .f32⟩
  | 55 => ⟨S128x384, .f32⟩
  | 56 => ⟨S128x384, .f32⟩
  | 57 => ⟨S_, .f32⟩
  | 58 => ⟨S128x384, .f32⟩
  | 59 => ⟨S128x384, .f32⟩
  | 60 => ⟨S128x384, .i32⟩
  | 61 => ⟨S_, .i32⟩
  | 62 => ⟨S128x384, .i32⟩
  | 63 => ⟨S128x384, .i32⟩
  | 64 => ⟨S_, .i32⟩
  | 65 => ⟨S128x384, .i32⟩
  | 66 => ⟨S128x384, .i32⟩
  | 67 => ⟨S_, .i32⟩
  | 68 => ⟨S128x384, .i32⟩
  | 69 => ⟨S128x384, .i1⟩
  | 70 => ⟨S128x384, .i32⟩
  | 71 => ⟨S128x384, .i32⟩
  | 72 => ⟨S128x384, .i32⟩
  | 73 => ⟨S_, .i32⟩
  | 74 => ⟨S128x384, .i32⟩
  | 75 => ⟨S128x384, .i1⟩
  | 76 => ⟨S_, .i32⟩
  | 77 => ⟨S128x384, .i32⟩
  | 78 => ⟨S128x384, .i32⟩
  | 79 => ⟨S128x384, .i32⟩
  | 80 => ⟨S128x384x1, .i32⟩
  | 81 => ⟨S128x384x8, .f32⟩
  | 82 => ⟨S8x128x384, .f32⟩
  | 83 => ⟨S2x4x128x384, .f32⟩
  | 84 => ⟨S8, .f32⟩
  | 85 => ⟨S2x4x1, .f32⟩
  | 86 => ⟨S32, .i32⟩
  | 87 => ⟨S_, .i32⟩
  | 88 => ⟨S32, .i32⟩
  | 89 => ⟨S32, .i32⟩
  | 90 => ⟨S_, .i32⟩
  | 91 => ⟨S32, .i32⟩
  | 92 => ⟨S32, .i32⟩
  | 93 => ⟨S32x1, .i32⟩
  | 94 => ⟨S384, .i32⟩
  | 95 => ⟨S1x384, .i32⟩
  | 96 => ⟨S32x384, .i32⟩
  | 97 => ⟨S32x384, .i32⟩
  | 98 => ⟨S32x384, .i32⟩
  | 99 => ⟨S_, .i32⟩
  | 100 => ⟨S32x384, .i32⟩
  | 101 => ⟨S32x384, .i1⟩
  | 102 => ⟨S_, .i32⟩
  | 103 => ⟨S32x384, .i32⟩
  | 104 => ⟨S32x384, .i1⟩
  | 105 => ⟨S32x384, .i1⟩
  | 106 => ⟨S1x128x384, .i1⟩
  | 107 => ⟨S32x1x384, .i1⟩
  | 108 => ⟨S32x128x384, .i1⟩
  | 109 => ⟨S32x128x384, .i1⟩
  | 110 => ⟨S32x128x384, .i1⟩
  | 111 => ⟨S16x32x2x384x128x4, .f32⟩
  | 112 => ⟨S16x32x2x4x128x384, .f32⟩
  | 113 => ⟨S_, .f32⟩
  | 114 => ⟨S16x32x2x4x128x384, .f32⟩
  | 115 => ⟨S16x32x2x4x128x384, .f32⟩
  | 116 => ⟨S1x1x2x4x128x384, .f32⟩
  | 117 => ⟨S16x32x2x4x128x384, .f32⟩
  | 118 => ⟨S16x32x2x4x128x384, .f32⟩
  | 119 => ⟨S1x32x1x1x128x384, .i1⟩
  | 120 => ⟨S_, .f32⟩
  | 121 => ⟨S_, .f32⟩
  | 122 => ⟨S16x32x2x4x128x384, .i1⟩
  | 123 => ⟨S16x32x2x4x128x384, .f32⟩
  | 124 => ⟨S16x32x2x4x128x384, .f32⟩
  | 125 => ⟨S_, .f32⟩
  | 126 => ⟨S16x32x2x4x128, .f32⟩
  | 127 => ⟨S1x1x2x4x1, .f32⟩
  | _ => ⟨S16x4096x768, .f32⟩

abbrev hbmTy0_1 (i : Nat) : BufTy := match i % 128 with
  | 0 => ⟨S16x32x2x4x128, .f32⟩
  | 1 => ⟨S16x32x2x4x128, .f32⟩
  | 2 => ⟨S16x32x2x4x128x1, .f32⟩
  | 3 => ⟨S16x32x2x4x128x384, .f32⟩
  | 4 => ⟨S16x32x2x4x128x384, .f32⟩
  | 5 => ⟨S16x32x2x4x128x384, .f32⟩
  | 6 => ⟨S_, .f32⟩
  | 7 => ⟨S16x32x2x4x128, .f32⟩
  | 8 => ⟨S1x1x2x4x1, .f32⟩
  | 9 => ⟨S16x32x2x4x128, .f32⟩
  | 10 => ⟨S16x32x2x4x128, .f32⟩
  | 11 => ⟨S16x32x2x4x128, .f32⟩
  | 12 => ⟨S16x32x2x4x128, .f32⟩
  | 13 => ⟨S16x32x2x4x128x1, .f32⟩
  | 14 => ⟨S16x32x2x4x128x384, .f32⟩
  | 15 => ⟨S16x32x2x4x128x384, .f32⟩
  | 16 => ⟨S16x32x2x64x4x128, .f32⟩
  | 17 => ⟨S16x32x128x4x2x64, .f32⟩
  | 18 => ⟨S16x4096x512, .f32⟩
  | 19 => ⟨S16x4096x512, .bf16⟩
  | _ => ⟨S16x4096x768, .f32⟩

abbrev hbmTy (i : Nat) : BufTy := match i / 128 with
  | 0 => hbmTy0_0 i
  | 1 => hbmTy0_1 i
  | _ => ⟨S16x4096x768, .f32⟩

abbrev bufTy : (tb : Table) → Fin (tcTables nBuf tb) → BufTy
  | .hbm, ⟨i, _⟩ => hbmTy i
  | _, _ => ⟨S16x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_c_5 : Ref sig .tc := ⟨.hbm, 41, rfl⟩
abbrev main_call2_v0 : Ref sig .tc := ⟨.hbm, 42, rfl⟩
abbrev main_call2_v1 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_9 : Ref sig .tc := ⟨.hbm, 61, rfl⟩
abbrev main_v43 : Ref sig .tc := ⟨.hbm, 62, rfl⟩
abbrev main_v44 : Ref sig .tc := ⟨.hbm, 63, rfl⟩
abbrev main_c_10 : Ref sig .tc := ⟨.hbm, 64, rfl⟩
abbrev main_v45 : Ref sig .tc := ⟨.hbm, 65, rfl⟩
abbrev main_v46 : Ref sig .tc := ⟨.hbm, 66, rfl⟩
abbrev main_c_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_12 : Ref sig .tc := ⟨.hbm, 73, rfl⟩
abbrev main_v52 : Ref sig .tc := ⟨.hbm, 74, rfl⟩
abbrev main_v53 : Ref sig .tc := ⟨.hbm, 75, rfl⟩
abbrev main_c_13 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_14 : Ref sig .tc := ⟨.hbm, 87, rfl⟩
abbrev main_v64 : Ref sig .tc := ⟨.hbm, 88, rfl⟩
abbrev main_v65 : Ref sig .tc := ⟨.hbm, 89, rfl⟩
abbrev main_c_15 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_16 : Ref sig .tc := ⟨.hbm, 99, rfl⟩
abbrev main_v74 : Ref sig .tc := ⟨.hbm, 100, rfl⟩
abbrev main_v75 : Ref sig .tc := ⟨.hbm, 101, rfl⟩
abbrev main_c_17 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_18 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_19 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_v92 : Ref sig .tc := ⟨.hbm, 124, rfl⟩
abbrev main_cst_20 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_21 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩

abbrev nD : Nat := 1
abbrev τ : Topo := Topo.v7x

variable {F : FTy → Type} [FloatOps F]
-- ==== Kernel2.lean ====
abbrev S16x4096x1024 : Shape := ⟨3, ![16, 4096, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S_ : Shape := ⟨0, ![]⟩
abbrev S65536x1024 : Shape := ⟨2, ![65536, 1024]⟩
abbrev S3x2x11x256 : Shape := ⟨4, ![3, 2, 11, 256]⟩
abbrev S3x11x2x256 : Shape := ⟨4, ![3, 11, 2, 256]⟩
abbrev S1x5632 : Shape := ⟨2, ![1, 5632]⟩
abbrev S1x2x11x256 : Shape := ⟨4, ![1, 2, 11, 256]⟩
abbrev S1x11x2x256 : Shape := ⟨4, ![1, 11, 2, 256]⟩
abbrev S1x1024 : Shape := ⟨2, ![1, 1024]⟩
abbrev S8x1024 : Shape := ⟨2, ![8, 1024]⟩
abbrev S512x1024 : Shape := ⟨2, ![512, 1024]⟩
abbrev S528x1024 : Shape := ⟨2, ![528, 1024]⟩
abbrev S2x528x512 : Shape := ⟨3, ![2, 528, 512]⟩
abbrev S512x2816 : Shape := ⟨2, ![512, 2816]⟩
abbrev S1024x256 : Shape := ⟨2, ![1024, 256]⟩
abbrev S1024x512 : Shape := ⟨2, ![1024, 512]⟩
abbrev S528x512 : Shape := ⟨2, ![528, 512]⟩
abbrev S1x528x512 : Shape := ⟨3, ![1, 528, 512]⟩
abbrev S3x512 : Shape := ⟨2, ![3, 512]⟩
abbrev S512x512 : Shape := ⟨2, ![512, 512]⟩
abbrev S1x512 : Shape := ⟨2, ![1, 512]⟩
abbrev S512x256 : Shape := ⟨2, ![512, 256]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 28
  | .vmem => 17
  | .smem => 0
  | _ => 0

abbrev bufTy : (tb : Table) → Fin (tcTables nBuf tb) → BufTy
  | .hbm, ⟨0, _⟩ => ⟨S16x4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S65536x1024, .f32⟩
  | .hbm, ⟨12, _⟩ => ⟨S1024x5632, .bf16⟩
  | .hbm, ⟨13, _⟩ => ⟨S3x5632, .f32⟩
  | .hbm, ⟨14, _⟩ => ⟨S3x5632, .f32⟩
  | .hbm, ⟨15, _⟩ => ⟨S3x2x11x256, .f32⟩
  | .hbm, ⟨16, _⟩ => ⟨S3x11x2x256, .f32⟩
  | .hbm, ⟨17, _⟩ => ⟨S3x5632, .f32⟩
  | .hbm, ⟨18, _⟩ => ⟨S1x5632, .f32⟩
  | .hbm, ⟨19, _⟩ => ⟨S1x5632, .f32⟩
  | .hbm, ⟨20, _⟩ => ⟨S1x5632, .f32⟩
  | .hbm, ⟨21, _⟩ => ⟨S1x2x11x256, .f32⟩
  | .hbm, ⟨22, _⟩ => ⟨S1x11x2x256, .f32⟩
  | .hbm, ⟨23, _⟩ => ⟨S1x5632, .f32⟩
  | .hbm, ⟨24, _⟩ => ⟨S2816x1024, .bf16⟩
  | .hbm, ⟨25, _⟩ => ⟨S1x1024, .f32⟩
  | .hbm, ⟨26, _⟩ => ⟨S1x1024, .f32⟩
  | .hbm, ⟨27, _⟩ => ⟨S65536x1024, .f32⟩
  | .local _ .vmem, ⟨0, _⟩ => ⟨S8x1024, .f32⟩
  | .local _ .vmem, ⟨1, _⟩ => ⟨S8x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S1024x5632, .bf16⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S528x1024, .bf16⟩
  | .local _ .vmem, ⟨15, _⟩ => ⟨S2x528x512, .f32⟩
  | .local _ .vmem, ⟨16, _⟩ => ⟨S512x2816, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16x4096x1024 : Shape := ⟨3, ![16, 4096, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S16x4096x5632 : Shape := ⟨3, ![16, 4096, 5632]⟩
abbrev S_ : Shape := ⟨0, ![]⟩
abbrev S16x4098x5632 : Shape := ⟨3, ![16, 4098, 5632]⟩
abbrev S1x5632 : Shape := ⟨2, ![1, 5632]⟩
abbrev S1x1x5632 : Shape := ⟨3, ![1, 1, 5632]⟩
abbrev S16x4096x2816 : Shape := ⟨3, ![16, 4096, 2816]⟩
abbrev S16x4096 : Shape := ⟨2, ![16, 4096]⟩
abbrev S16x4096x1 : Shape := ⟨3, ![16, 4096, 1]⟩
abbrev S1x1x1024 : Shape := ⟨3, ![1, 1, 1024]⟩
abbrev S65536x1024 : Shape := ⟨2, ![65536, 1024]⟩

abbrev nBuf : Space → Nat
  | .hbm => 84
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S16x4096x5632, .f32⟩
  | .hbm, ⟨8, _⟩ => ⟨S_, .i32⟩
  | .hbm, ⟨9, _⟩ => ⟨S_, .f32⟩
  | .hbm, ⟨10, _⟩ => ⟨S16x4098x5632, .f32⟩
  | .hbm, ⟨11, _⟩ => ⟨S1x5632, .f32⟩
  | .hbm, ⟨12, _⟩ => ⟨S5632, .f32⟩
  | .hbm, ⟨13, _⟩ => ⟨S16x4096x5632, .f32⟩
  | .hbm, ⟨14, _⟩ => ⟨S1x1x5632, .f32⟩
  | .hbm, ⟨15, _⟩ => ⟨S16x4096x5632, .f32⟩
  | .hbm, ⟨16, _⟩ => ⟨S16x4096x5632, .f32⟩
  | .hbm, ⟨17, _⟩ => ⟨S1x5632, .f32⟩
  | .hbm, ⟨18, _⟩ => ⟨S5632, .f32⟩
  | .hbm, ⟨19, _⟩ => ⟨S16x4096x5632, .f32⟩
  | .hbm, ⟨20, _⟩ => ⟨S1x1x5632, .f32⟩
  | .hbm, ⟨21, _⟩ => ⟨S16x4096x5632, .f32⟩
  | .hbm, ⟨22, _⟩ => ⟨S16x4096x5632, .f32⟩
  | .hbm, ⟨23, _⟩ => ⟨S16x4096x5632, .f32⟩
  | .hbm, ⟨24, _⟩ => ⟨S1x5632, .f32⟩
  | .hbm, ⟨25, _⟩ => ⟨S5632, .f32⟩
  | .hbm, ⟨26, _⟩ => ⟨S16x4096x5632, .f32⟩
  | .hbm, ⟨27, _⟩ => ⟨S1x1x5632, .f32⟩
  | .hbm, ⟨28, _⟩ => ⟨S16x4096x5632, .f32⟩
  | .hbm, ⟨29, _⟩ => ⟨S16x4096x5632, .f32⟩
  | .hbm, ⟨30, _⟩ => ⟨S16x4096x5632, .f32⟩
  | .hbm, ⟨31, _⟩ => ⟨S1x1x5632, .f32⟩
  | .hbm, ⟨32, _⟩ => ⟨S16x4096x5632, .f32⟩
  | .hbm, ⟨33, _⟩ => ⟨S16x4096x5632, .f32⟩
  | .hbm, ⟨34, _⟩ => ⟨S16x4096x2816, .f32⟩
  | .hbm, ⟨35, _⟩ => ⟨S16x4096x2816, .f32⟩
  | .hbm, ⟨36, _⟩ => ⟨S_, .f32⟩
  | .hbm, ⟨37, _⟩ => ⟨S_, .f32⟩
  | .hbm, ⟨38, _⟩ => ⟨S16x4096x2816, .f32⟩
  | .hbm, ⟨39, _⟩ => ⟨S16x4096x2816, .f32⟩
  | .hbm, ⟨40, _⟩ => ⟨S16x4096x2816, .f32⟩
  | .hbm, ⟨41, _⟩ => ⟨S_, .f32⟩
  | .hbm, ⟨42, _⟩ => ⟨S16x4096x2816, .f32⟩
  | .hbm, ⟨43, _⟩ => ⟨S16x4096x2816, .f32⟩
  | .hbm, ⟨44, _⟩ => ⟨S16x4096x2816, .f32⟩
  | .hbm, ⟨45, _⟩ => ⟨S_, .f32⟩
  | .hbm, ⟨46, _⟩ => ⟨S16x4096x2816, .f32⟩
  | .hbm, ⟨47, _⟩ => ⟨S16x4096x2816, .f32⟩
  | .hbm, ⟨48, _⟩ => ⟨S_, .f32⟩
  | .hbm, ⟨49, _⟩ => ⟨S16x4096x1024, .f32⟩
  | .hbm, ⟨50, _⟩ => ⟨S16x4096x1024, .f32⟩
  | .hbm, ⟨51, _⟩ => ⟨S16x4096x2816, .f32⟩
  | .hbm, ⟨52, _⟩ => ⟨S16x4096x1024, .f32⟩
  | .hbm, ⟨53, _⟩ => ⟨S16x4096x1024, .f32⟩
  | .hbm, ⟨54, _⟩ => ⟨S_, .f32⟩
  | .hbm, ⟨55, _⟩ => ⟨S16x4096, .f32⟩
  | .hbm, ⟨56, _⟩ => ⟨S16x4096x1, .f32⟩
  | .hbm, ⟨57, _⟩ => ⟨S_, .f32⟩
  | .hbm, ⟨58, _⟩ => ⟨S16x4096x1, .f32⟩
  | .hbm, ⟨59, _⟩ => ⟨S16x4096x1, .f32⟩
  | .hbm, ⟨60, _⟩ => ⟨S16x4096x1024, .f32⟩
  | .hbm, ⟨61, _⟩ => ⟨S16x4096x1024, .f32⟩
  | .hbm, ⟨62, _⟩ => ⟨S16x4096x1024, .f32⟩
  | .hbm, ⟨63, _⟩ => ⟨S_, .f32⟩
  | .hbm, ⟨64, _⟩ => ⟨S16x4096, .f32⟩
  | .hbm, ⟨65, _⟩ => ⟨S16x4096x1, .f32⟩
  | .hbm, ⟨66, _⟩ => ⟨S_, .f32⟩
  | .hbm, ⟨67, _⟩ => ⟨S16x4096x1, .f32⟩
  | .hbm, ⟨68, _⟩ => ⟨S16x4096x1, .f32⟩
  | .hbm, ⟨69, _⟩ => ⟨S16x4096x1024, .f32⟩
  | .hbm, ⟨70, _⟩ => ⟨S16x4096x1024, .f32⟩
  | .hbm, ⟨71, _⟩ => ⟨S_, .f32⟩
  | .hbm, ⟨72, _⟩ => ⟨S16x4096x1, .f32⟩
  | .hbm, ⟨73, _⟩ => ⟨S16x4096x1, .f32⟩
  | .hbm, ⟨74, _⟩ => ⟨S16x4096x1, .f32⟩
  | .hbm, ⟨75, _⟩ => ⟨S16x4096x1024, .f32⟩
  | .hbm, ⟨76, _⟩ => ⟨S16x4096x1024, .f32⟩
  | .hbm, ⟨77, _⟩ => ⟨S1x1x1024, .f32⟩
  | .hbm, ⟨78, _⟩ => ⟨S16x4096x1024, .f32⟩
  | .hbm, ⟨79, _⟩ => ⟨S16x4096x1024, .f32⟩
  | .hbm, ⟨80, _⟩ => ⟨S1x1x1024, .f32⟩
  | .hbm, ⟨81, _⟩ => ⟨S16x4096x1024, .f32⟩
  | .hbm, ⟨82, _⟩ => ⟨S16x4096x1024, .f32⟩
  | .hbm, ⟨83, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Proof.Att.Block.lean ====
/- One block of queries of the attention kernel as a function of what the kernel reads for it,
   and what the kernel leaves in its output window as sixteen such blocks. -/
module

public import proofs.«01_k».proof.Proof.Gen.KernelIdeal.Value

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)

variable {F : FTy → Type} [FloatOps F]

/-- The lanes below 64, over the 384 keys. -/
def low : IVec S384x128 1 := cmpi .slt (iota .tc S384x128 32 [1] iota_S384x128_d1_w32) (broadcast S384x128 64#32)

/-- The lanes below 64, over a block's 128 rows. -/
def outLow : IVec S128x128 1 := cmpi .slt (iota .tc S128x128 32 [1] iota_S128x128_d1_w32) (broadcast S128x128 64#32)

/-- The four head pairs' queries, stacked. -/
def queries (q : Vec F S1x128x512 .bf16) : FVec F S512x128 .bf16 :=
  concatenate S512x128 0
    [⟨S128x128, extractStridedSlice S128x128 ![0, 0] (shapeCast S128x512 q shapeCasts_S1x128x512_S128x512) slices_S128x512_o0_0_S128x128⟩,
     ⟨S128x128, extractStridedSlice S128x128 ![0, 128] (shapeCast S128x512 q shapeCasts_S1x128x512_S128x512) slices_S128x512_o0_128_S128x128⟩,
     ⟨S128x128, extractStridedSlice S128x128 ![0, 256] (shapeCast S128x512 q shapeCasts_S1x128x512_S128x512) slices_S128x512_o0_256_S128x128⟩,
     ⟨S128x128, extractStridedSlice S128x128 ![0, 384] (shapeCast S128x512 q shapeCasts_S1x128x512_S128x512) slices_S128x512_o0_384_S128x128⟩]
    concatenates_S128x128_S128x128_S128x128_S128x128_S512x128_d0

/-- Three blocks of rows, stacked. -/
def band (a b c : Vec F S1x128x128 .bf16) : FVec F S384x128 .bf16 :=
  concatenate S384x128 0
    [⟨S128x128, shapeCast S128x128 a shapeCasts_S1x128x128_S128x128⟩,
     ⟨S128x128, shapeCast S128x128 b shapeCasts_S1x128x128_S128x128⟩,
     ⟨S128x128, shapeCast S128x128 c shapeCasts_S1x128x128_S128x128⟩]
    concatenates_S128x128_S128x128_S128x128_S384x128_d0

/-- The block of zeros beside a band. -/
def zeros : FVec F S384x128 .bf16 := broadcast S384x128 (Scalar.ofBits .bf16 0x0000#16 : F .bf16)

/-- The band twice: its low lanes above, its high lanes below, zeros elsewhere. -/
def blockDiag (a b c : Vec F S1x128x128 .bf16) : FVec F S768x128 .bf16 :=
  concatenate S768x128 0
    [⟨S384x128, select low (band a b c) zeros⟩, ⟨S384x128, select low zeros (band a b c)⟩]
    concatenates_S384x128_S384x128_S768x128_d0

/-- The logits of a block: the four pairs below each other, a pair's two heads beside each other. -/
def logits (q : Vec F S1x128x512 .bf16) (a b c : Vec F S1x128x128 .bf16) (bias : Vec F S1x512x768 .f32) : FVec F S512x768 .f32 :=
  addf (matmul dot_S512x128_S768x128_S512x768_1_1_0_0_n_n none (queries q) (blockDiag a b c) (constant S512x768 .f32 0x00000000#32))
    (shapeCast S512x768 bias shapeCasts_S1x512x768_S512x768)

/-- The maximum of a head's rows of logits and its sink. -/
def top (X : FVec F S128x384 .f32) (s : Elt F .f32) : FVec F S128x1 .f32 :=
  maximumf (shapeCast S128x1 (multiReduction .maximumf [1] S128 X 0xFF800000#32 reduces_S128x384_S128 (.inl rfl) rfl) shapeCasts_S128_S128x1)
    (broadcast S128x1 s)

/-- A head's weights before they are divided by their sum. -/
def weights (X : FVec F S128x384 .f32) (s : Elt F .f32) : FVec F S128x384 .f32 :=
  exp2 (subf X (broadcastTo S128x384 (top X s) broadcasts_S128x1_S128x384))

/-- The reciprocal of a head's sum of weights, the sink's among them. -/
def recip (X : FVec F S128x384 .f32) (s : Elt F .f32) : FVec F S128x1 .f32 :=
  divf (broadcast S128x1 (Scalar.ofBits .f32 0x3F800000#32 : F .f32))
    (addf (shapeCast S128x1 (multiReduction .add [1] S128 (weights X s) 0x00000000#32 reduces_S128x384_S128 (.inl rfl) rfl) shapeCasts_S128_S128x1)
      (exp2 (subf (broadcast S128x1 s) (top X s))))

/-- A pair's weights: its two heads' beside each other. -/
def pairWeights (X Y : FVec F S128x384 .f32) (s t : Elt F .f32) : FVec F S128x768 .bf16 :=
  concatenate S128x768 1
    [⟨S128x384, truncf .bf16 (weights X s) bitsLt_bf16_f32⟩, ⟨S128x384, truncf .bf16 (weights Y t) bitsLt_bf16_f32⟩]
    concatenates_S128x384_S128x384_S128x768_d1

/-- A pair's reciprocals: its first head's on the low lanes, its second's on the high. -/
def pairRecip (X Y : FVec F S128x384 .f32) (s t : Elt F .f32) : FVec F S128x128 .f32 :=
  select outLow (broadcastTo S128x128 (shapeCast S128x1 (recip X s) shapeCasts_S128x1_S128x1) broadcasts_S128x1_S128x128)
    (broadcastTo S128x128 (shapeCast S128x1 (recip Y t) shapeCasts_S128x1_S128x1) broadcasts_S128x1_S128x128)

/-- The eight heads' logits, cut out of the block's. -/
def head0 (L : FVec F S512x768 .f32) : FVec F S128x384 .f32 := extractStridedSlice S128x384 ![0, 0] L slices_S512x768_o0_0_S128x384
@[inherit_doc head0]
def head1 (L : FVec F S512x768 .f32) : FVec F S128x384 .f32 := extractStridedSlice S128x384 ![0, 384] L slices_S512x768_o0_384_S128x384
@[inherit_doc head0]
def head2 (L : FVec F S512x768 .f32) : FVec F S128x384 .f32 := extractStridedSlice S128x384 ![128, 0] L slices_S512x768_o128_0_S128x384
@[inherit_doc head0]
def head3 (L : FVec F S512x768 .f32) : FVec F S128x384 .f32 := extractStridedSlice S128x384 ![128, 384] L slices_S512x768_o128_384_S128x384
@[inherit_doc head0]
def head4 (L : FVec F S512x768 .f32) : FVec F S128x384 .f32 := extractStridedSlice S128x384 ![256, 0] L slices_S512x768_o256_0_S128x384
@[inherit_doc head0]
def head5 (L : FVec F S512x768 .f32) : FVec F S128x384 .f32 := extractStridedSlice S128x384 ![256, 384] L slices_S512x768_o256_384_S128x384
@[inherit_doc head0]
def head6 (L : FVec F S512x768 .f32) : FVec F S128x384 .f32 := extractStridedSlice S128x384 ![384, 0] L slices_S512x768_o384_0_S128x384
@[inherit_doc head0]
def head7 (L : FVec F S512x768 .f32) : FVec F S128x384 .f32 := extractStridedSlice S128x384 ![384, 384] L slices_S512x768_o384_384_S128x384

/-- The weights of the block's eight heads against the block diagonal values. -/
def weighted (L : FVec F S512x768 .f32) (V : FVec F S768x128 .bf16) (s : Fin 8 → Elt F .f32) : FVec F S512x128 .f32 :=
  matmul dot_S512x768_S768x128_S512x128_1_0_0_1_n_n none
    (concatenate S512x768 0
      [⟨S128x768, pairWeights (head0 L) (head1 L) (s 0) (s 1)⟩, ⟨S128x768, pairWeights (head2 L) (head3 L) (s 2) (s 3)⟩,
       ⟨S128x768, pairWeights (head4 L) (head5 L) (s 4) (s 5)⟩, ⟨S128x768, pairWeights (head6 L) (head7 L) (s 6) (s 7)⟩]
      concatenates_S128x768_S128x768_S128x768_S128x768_S512x768_d0)
    V (constant S512x128 .f32 0x00000000#32)

/-- The block's output from its logits, its values and the sinks. -/
def finish (L : FVec F S512x768 .f32) (V : FVec F S768x128 .bf16) (s : Fin 8 → Elt F .f32) : FVec F S1x128x512 .bf16 :=
  shapeCast S1x128x512
    (truncf .bf16
      (concatenate S128x512 1
        [⟨S128x128, mulf (extractStridedSlice S128x128 ![0, 0] (weighted L V s) slices_S512x128_o0_0_S128x128) (pairRecip (head0 L) (head1 L) (s 0) (s 1))⟩,
         ⟨S128x128, mulf (extractStridedSlice S128x128 ![128, 0] (weighted L V s) slices_S512x128_o128_0_S128x128) (pairRecip (head2 L) (head3 L) (s 2) (s 3))⟩,
         ⟨S128x128, mulf (extractStridedSlice S128x128 ![256, 0] (weighted L V s) slices_S512x128_o256_0_S128x128) (pairRecip (head4 L) (head5 L) (s 4) (s 5))⟩,
         ⟨S128x128, mulf (extractStridedSlice S128x128 ![384, 0] (weighted L V s) slices_S512x128_o384_0_S128x128) (pairRecip (head6 L) (head7 L) (s 6) (s 7))⟩]
        concatenates_S128x128_S128x128_S128x128_S128x128_S128x512_d1)
      bitsLt_bf16_f32)
    shapeCasts_S128x512_S1x128x512

/-- The block's output from what is read for it. -/
def block (q : Vec F S1x128x512 .bf16) (k0 k1 k2 v0 v1 v2 : Vec F S1x128x128 .bf16) (bias : Vec F S1x512x768 .f32) (s : Fin 8 → Elt F .f32) :
    FVec F S1x128x512 .bf16 :=
  finish (logits q k0 k1 k2 bias) (blockDiag v0 v1 v2) s

/-- The first row of the window of keys shifted by `c` blocks, as the kernel computes it at grid coordinate `i` for block `qi`. -/
def startWord (i qi : ℕ) (c : BitVec 32) : BitVec 32 :=
  Scalar.minsi 3968#32 (Scalar.maxsi 0#32 (Scalar.muli (Scalar.addi (Scalar.addi (Scalar.muli (BitVec.ofNat 32 i) 16#32) (BitVec.ofNat 32 qi)) c) 128#32))

/-- Which of the three biases the kernel takes at grid coordinate `i` for block `qi`. -/
def variantWord (i qi : ℕ) : BitVec 32 :=
  Scalar.select (Scalar.cmpi CmpIPredicate.eq (Scalar.addi (Scalar.muli (BitVec.ofNat 32 i) 16#32) (BitVec.ofNat 32 qi)) 0#32) 1#32
    (Scalar.select (Scalar.cmpi CmpIPredicate.eq (Scalar.addi (Scalar.muli (BitVec.ofNat 32 i) 16#32) (BitVec.ofNat 32 qi)) 31#32) 2#32 0#32)

/-- The first row as an offset. -/
def start (i qi : ℕ) (c : BitVec 32) : ℕ := BitVec.toNat (Scalar.indexCast (startWord i qi c))

/-- The bias's number as an offset. -/
def variant (i qi : ℕ) : ℕ := BitVec.toNat (Scalar.indexCast (variantWord i qi))

/-- Over the grid and the sixteen blocks, the window's first row is the clipped one. -/
theorem start_eq : ∀ i : Fin 2, ∀ qi : Fin 16,
    start i qi 4294967295#32 = (128 * (16 * i.val + qi.val - 1)) ∧ start i qi 0#32 = 128 * (16 * i.val + qi.val)
      ∧ start i qi 1#32 = min 3968 (128 * (16 * i.val + qi.val + 1)) := by decide +kernel

/-- Over the grid and the sixteen blocks, the bias is 1 for the first block, 2 for the last and 0 elsewhere. -/
theorem variant_eq : ∀ i : Fin 2, ∀ qi : Fin 16,
    variant i qi = if 16 * i.val + qi.val = 0 then 1 else if 16 * i.val + qi.val = 31 then 2 else 0 := by decide +kernel

end Cert.KernelIdeal.Att

end
-- ==== Proof.Att.Pieces.lean ====
/- What the attention kernel leaves in its output window: sixteen blocks, each the one function of its inputs. -/
module

public import proofs.«01_k».proof.Proof.Att.Block

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The grid's second coordinate at a point: which half of the sequence it works on. -/
def half (t : Fin cfg0.N) : Fin 2 := ⟨(grid0.coords t 1).val, (grid0.coords t 1).isLt⟩

/-- The block's query rows lie in the window. -/
theorem q_inb (qi : Fin 16) : ∀ a, (![0, 128 * qi.val, 0] : Fin 3 → ℕ) a + S1x128x512.size a ≤ S1x2048x512.size a := by
  intro a; fin_cases a
  · exact (by decide : 0 + 1 ≤ 1)
  · show 128 * qi.val + 128 ≤ 2048; omega
  · exact (by decide : 0 + 512 ≤ 512)

/-- The block's key rows lie in the window. -/
theorem k_inb (i : Fin 2) (qi : Fin 16) (w : BitVec 32) (h : w = 4294967295#32 ∨ w = 0#32 ∨ w = 1#32) :
    ∀ a, (![0, start i.val qi.val w, 0] : Fin 3 → ℕ) a + S1x128x128.size a ≤ S1x4096x128.size a := by
  have hs : start i.val qi.val w + 128 ≤ 4096 := by
    obtain ⟨h0, h1, h2⟩ := start_eq i qi
    rcases h with rfl | rfl | rfl <;> omega
  intro a; fin_cases a
  · exact (by decide : 0 + 1 ≤ 1)
  · exact hs
  · exact (by decide : 0 + 128 ≤ 128)

/-- The block's bias lies in the window. -/
theorem bias_inb (i : Fin 2) (qi : Fin 16) :
    ∀ a, (![variant i.val qi.val, 0, 0] : Fin 3 → ℕ) a + S1x512x768.size a ≤ S3x512x768.size a := by
  have hs : variant i.val qi.val + 1 ≤ 3 := by
    rw [variant_eq]; split_ifs <;> omega
  intro a; fin_cases a
  · exact hs
  · exact (by decide : 0 + 512 ≤ 512)
  · exact (by decide : 0 + 768 ≤ 768)

/-- A sink lies in the window. -/
theorem sink_inb (h : Fin 8) : ∀ a, (![h.val] : Fin 1 → ℕ) a + S1.size a ≤ S8.size a := by
  intro a; fin_cases a; show h.val + 1 ≤ 8; omega

/-- A block of 128 rows of a window of keys or values, shifted by `w` blocks. -/
def rows (X : S1x4096x128.Idx → Elt F .bf16) (i : Fin 2) (qi : Fin 16) (w : BitVec 32) (h : w = 4294967295#32 ∨ w = 0#32 ∨ w = 1#32) : Vec F S1x128x128 .bf16 :=
  View.ld X (Rect.unit (s := S1x4096x128) ![0, start i.val qi.val w, 0] ![1, 128, 128] (k_inb i qi w h))

/-- Block `qi` of the output window at a grid point, from the windows' contents there. -/
def piece (c : Dev nD) (t : Fin cfg0.N) (qi : Fin 16) : FVec F S1x128x512 .bf16 :=
  block (View.ld (S := S1x2048x512) (X0_0 m c t) (Rect.unit (s := S1x2048x512) ![0, 128 * qi.val, 0] ![1, 128, 512] (q_inb qi)))
    (rows (iblk m c 1 t) (half t) qi 4294967295#32 (.inl rfl)) (rows (iblk m c 1 t) (half t) qi 0#32 (.inr (.inl rfl))) (rows (iblk m c 1 t) (half t) qi 1#32 (.inr (.inr rfl)))
    (rows (iblk m c 2 t) (half t) qi 4294967295#32 (.inl rfl)) (rows (iblk m c 2 t) (half t) qi 0#32 (.inr (.inl rfl))) (rows (iblk m c 2 t) (half t) qi 1#32 (.inr (.inr rfl)))
    (View.ld (S := S3x512x768) (iblk m c 3 t) (Rect.unit (s := S3x512x768) ![variant (half t).val qi.val, 0, 0] ![1, 512, 768] (bias_inb (half t) qi)))
    (fun h => View.ld (S := S8) (iblk m c 4 t) (Rect.unit (s := S8) ![h.val] ![1] (sink_inb h)) (Shape.Idx.first (s := S1) (by decide)))

/-- The output window at a grid point: row `r` is row `r % 128` of block `r / 128`. -/
def window (c : Dev nD) (t : Fin cfg0.N) : S1x2048x512.Idx → Elt F .bf16 := fun y =>
  piece m c t ⟨(y 1).val / 128, by have : (y 1).val < 2048 := (y 1).isLt; omega⟩
    (fun a => match a with | ⟨0, _⟩ => y 0 | ⟨1, _⟩ => (⟨(y 1).val % 128, by omega⟩ : Fin 128) | ⟨2, _⟩ => y 2)

/-- The window under block `qi`'s rectangle is block `qi`. -/
theorem window_emb (c : Dev nD) (t : Fin cfg0.N) (qi : Fin 16) (h) (x : S1x128x512.Idx) :
    window m c t ((Rect.unit (s := S1x2048x512) ![0, 128 * qi.val, 0] ![1, 128, 512] h).emb x) = piece m c t qi x := by
  have h1 : (((Rect.unit (s := S1x2048x512) ![0, 128 * qi.val, 0] ![1, 128, 512] h).emb x) 1).val = 128 * qi.val + (x 1).val := by
    rw [Rect.emb_apply]; show 128 * qi.val + 1 * (x 1).val = _; omega
  have hx : (x 1).val < 128 := (x 1).isLt
  unfold window
  have e1 : (⟨(((Rect.unit (s := S1x2048x512) ![0, 128 * qi.val, 0] ![1, 128, 512] h).emb x) 1).val / 128, by omega⟩ : Fin 16) = qi :=
    Fin.ext (by show _ / 128 = _; omega)
  rw [e1]
  have h0 : (((Rect.unit (s := S1x2048x512) ![0, 128 * qi.val, 0] ![1, 128, 512] h).emb x) 0).val = (x 0).val := by
    rw [Rect.emb_apply]; show 0 + 1 * (x 0).val = _; omega
  have h2 : (((Rect.unit (s := S1x2048x512) ![0, 128 * qi.val, 0] ![1, 128, 512] h).emb x) 2).val = (x 2).val := by
    rw [Rect.emb_apply]; show 0 + 1 * (x 2).val = _; omega
  congr 1
  funext a
  fin_cases a
  · exact Fin.ext h0
  · exact Fin.ext (by show (((Rect.unit (s := S1x2048x512) ![0, 128 * qi.val, 0] ![1, 128, 512] h).emb x) 1).val % 128 = (x 1).val; omega)
  · exact Fin.ext h2

/-- The first block, its offsets written out. -/
def piece0 (c : Dev nD) (t : Fin cfg0.N) : FVec F S1x128x512 .bf16 :=
  block (View.ld (S := S1x2048x512) (X0_0 m c t) (Rect.unit (s := S1x2048x512) ![0, 0, 0] ![1, 128, 512] (q_inb 0)))
    (View.ld (S := S1x4096x128) (iblk m c 1 t) (Rect.unit (s := S1x4096x128) ![0, start (half t).val 0 4294967295#32, 0] ![1, 128, 128] (k_inb (half t) 0 _ (.inl rfl))))
    (View.ld (S := S1x4096x128) (iblk m c 1 t) (Rect.unit (s := S1x4096x128) ![0, start (half t).val 0 0#32, 0] ![1, 128, 128] (k_inb (half t) 0 _ (.inr (.inl rfl)))))
    (View.ld (S := S1x4096x128) (iblk m c 1 t) (Rect.unit (s := S1x4096x128) ![0, start (half t).val 0 1#32, 0] ![1, 128, 128] (k_inb (half t) 0 _ (.inr (.inr rfl)))))
    (View.ld (S := S1x4096x128) (iblk m c 2 t) (Rect.unit (s := S1x4096x128) ![0, start (half t).val 0 4294967295#32, 0] ![1, 128, 128] (k_inb (half t) 0 _ (.inl rfl))))
    (View.ld (S := S1x4096x128) (iblk m c 2 t) (Rect.unit (s := S1x4096x128) ![0, start (half t).val 0 0#32, 0] ![1, 128, 128] (k_inb (half t) 0 _ (.inr (.inl rfl)))))
    (View.ld (S := S1x4096x128) (iblk m c 2 t) (Rect.unit (s := S1x4096x128) ![0, start (half t).val 0 1#32, 0] ![1, 128, 128] (k_inb (half t) 0 _ (.inr (.inr rfl)))))
    (View.ld (S := S3x512x768) (iblk m c 3 t) (Rect.unit (s := S3x512x768) ![variant (half t).val 0, 0, 0] ![1, 512, 768] (bias_inb (half t) 0)))
    (fun h => View.ld (S := S8) (iblk m c 4 t) (Rect.unit (s := S8) ![h.val] ![1] (sink_inb h)) (Shape.Idx.first (s := S1) (by decide)))

/-- The first block with its offsets written out. -/
theorem piece0_eq (c : Dev nD) (t : Fin cfg0.N) : piece m c t 0 = piece0 m c t := rfl

set_option maxHeartbeats 4000000 in
/-- What the body leaves in the output window at a grid point. -/
theorem outs_eq (c : Dev nD) (t : Fin cfg0.N) (y : S1x2048x512.Idx) : outsAt0 m c t y = window m c t y := by
  unfold outsAt0 out0_A_5
  rw [View.read_writes_eq_canon _ _ _ (cover0_A_5 c _ _ _ _ _ _ _ _ _ _ _ _ _ _ _ _ _ _)]
  refine View.canon_apply_of_pieces (window m c t) _ ?_ y (cover0_A_5 c _ _ _ _ _ _ _ _ _ _ _ _ _ _ _ _ _ _ y)
  have hX : View.read (Elt F) (ms0_0 t).view ((hs0_0 t).unread (X0_0 m c t)) = X0_0 m c t := (hs0_0 t).read_unread _
  unfold kernelRun0_A; dsimp only
  sl_unfold_words
  simp only [View.readAt_eq_ld, (hs0_1 t).read_unread, (hs0_2 t).read_unread, (hs0_3 t).read_unread, (hs0_4 t).read_unread, hX]
  simp only [List.forall_mem_cons, List.not_mem_nil, false_imp_iff, implies_true, and_true]
  refine ⟨?_, ?_, ?_, ?_, ?_, ?_, ?_, ?_, ?_, ?_, ?_, ?_, ?_, ?_, ?_, ?_⟩
  · intro x
    refine Eq.trans ?_ (window_emb m c t 15 (q_inb 15) x).symm
    dsimp only [piece, block, finish, logits, weighted, pairWeights, pairRecip, weights, recip, top, head0, head1, head2, head3, head4, head5, head6, head7, queries, blockDiag, band, zeros, low, outLow, rows, start, startWord, variant, variantWord, half]
    dsimp only [k0_pay1, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, k0_pay651, k0_pay652, k0_pay653, k0_pay654, k0_pay655, k0_pay656, k0_pay657, k0_pay658, k0_pay659, k0_pay660]
    rfl
  · intro x
    refine Eq.trans ?_ (window_emb m c t 14 (q_inb 14) x).symm
    dsimp only [piece, block, finish, logits, weighted, pairWeights, pairRecip, weights, recip, top, head0, head1, head2, head3, head4, head5, head6, head7, queries, blockDiag, band, zeros, low, outLow, rows, start, startWord, variant, variantWord, half]
    dsimp only [k0_pay1, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, k0_pay651, k0_pay652, k0_pay653]
    rfl
  · intro x
    refine Eq.trans ?_ (window_emb m c t 13 (q_inb 13) x).symm
    dsimp only [piece, block, finish, logits, weighted, pairWeights, pairRecip, weights, recip, top, head0, head1, head2, head3, head4, head5, head6, head7, queries, blockDiag, band, zeros, low, outLow, rows, start, startWord, variant, variantWord, half]
    dsimp only [k0_pay1, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612]
    rfl
  · intro x
    refine Eq.trans ?_ (window_emb m c t 12 (q_inb 12) x).symm
    dsimp only [piece, block, finish, logits, weighted, pairWeights, pairRecip, weights, recip, top, head0, head1, head2, head3, head4, head5, head6, head7, queries, blockDiag, band, zeros, low, outLow, rows, start, startWord, variant, variantWord, half]
    dsimp only [k0_pay1, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571]
    rfl
  · intro x
    refine Eq.trans ?_ (window_emb m c t 11 (q_inb 11) x).symm
    dsimp only [piece, block, finish, logits, weighted, pairWeights, pairRecip, weights, recip, top, head0, head1, head2, head3, head4, head5, head6, head7, queries, blockDiag, band, zeros, low, outLow, rows, start, startWord, variant, variantWord, half]
    dsimp only [k0_pay1, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530]
    rfl
  · intro x
    refine Eq.trans ?_ (window_emb m c t 10 (q_inb 10) x).symm
    dsimp only [piece, block, finish, logits, weighted, pairWeights, pairRecip, weights, recip, top, head0, head1, head2, head3, head4, head5, head6, head7, queries, blockDiag, band, zeros, low, outLow, rows, start, startWord, variant, variantWord, half]
    dsimp only [k0_pay1, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489]
    rfl
  · intro x
    refine Eq.trans ?_ (window_emb m c t 9 (q_inb 9) x).symm
    dsimp only [piece, block, finish, logits, weighted, pairWeights, pairRecip, weights, recip, top, head0, head1, head2, head3, head4, head5, head6, head7, queries, blockDiag, band, zeros, low, outLow, rows, start, startWord, variant, variantWord, half]
    dsimp only [k0_pay1, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448]
    rfl
  · intro x
    refine Eq.trans ?_ (window_emb m c t 8 (q_inb 8) x).symm
    dsimp only [piece, block, finish, logits, weighted, pairWeights, pairRecip, weights, recip, top, head0, head1, head2, head3, head4, head5, head6, head7, queries, blockDiag, band, zeros, low, outLow, rows, start, startWord, variant, variantWord, half]
    dsimp only [k0_pay1, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407]
    rfl
  · intro x
    refine Eq.trans ?_ (window_emb m c t 7 (q_inb 7) x).symm
    dsimp only [piece, block, finish, logits, weighted, pairWeights, pairRecip, weights, recip, top, head0, head1, head2, head3, head4, head5, head6, head7, queries, blockDiag, band, zeros, low, outLow, rows, start, startWord, variant, variantWord, half]
    dsimp only [k0_pay1, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366]
    rfl
  · intro x
    refine Eq.trans ?_ (window_emb m c t 6 (q_inb 6) x).symm
    dsimp only [piece, block, finish, logits, weighted, pairWeights, pairRecip, weights, recip, top, head0, head1, head2, head3, head4, head5, head6, head7, queries, blockDiag, band, zeros, low, outLow, rows, start, startWord, variant, variantWord, half]
    dsimp only [k0_pay1, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325]
    rfl
  · intro x
    refine Eq.trans ?_ (window_emb m c t 5 (q_inb 5) x).symm
    dsimp only [piece, block, finish, logits, weighted, pairWeights, pairRecip, weights, recip, top, head0, head1, head2, head3, head4, head5, head6, head7, queries, blockDiag, band, zeros, low, outLow, rows, start, startWord, variant, variantWord, half]
    dsimp only [k0_pay1, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284]
    rfl
  · intro x
    refine Eq.trans ?_ (window_emb m c t 4 (q_inb 4) x).symm
    dsimp only [piece, block, finish, logits, weighted, pairWeights, pairRecip, weights, recip, top, head0, head1, head2, head3, head4, head5, head6, head7, queries, blockDiag, band, zeros, low, outLow, rows, start, startWord, variant, variantWord, half]
    dsimp only [k0_pay1, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243]
    rfl
  · intro x
    refine Eq.trans ?_ (window_emb m c t 3 (q_inb 3) x).symm
    dsimp only [piece, block, finish, logits, weighted, pairWeights, pairRecip, weights, recip, top, head0, head1, head2, head3, head4, head5, head6, head7, queries, blockDiag, band, zeros, low, outLow, rows, start, startWord, variant, variantWord, half]
    dsimp only [k0_pay1, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202]
    rfl
  · intro x
    refine Eq.trans ?_ (window_emb m c t 2 (q_inb 2) x).symm
    dsimp only [piece, block, finish, logits, weighted, pairWeights, pairRecip, weights, recip, top, head0, head1, head2, head3, head4, head5, head6, head7, queries, blockDiag, band, zeros, low, outLow, rows, start, startWord, variant, variantWord, half]
    dsimp only [k0_pay1, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161]
    rfl
  · intro x
    refine Eq.trans ?_ (window_emb m c t 1 (q_inb 1) x).symm
    dsimp only [piece, block, finish, logits, weighted, pairWeights, pairRecip, weights, recip, top, head0, head1, head2, head3, head4, head5, head6, head7, queries, blockDiag, band, zeros, low, outLow, rows, start, startWord, variant, variantWord, half]
    dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120]
    rfl
  · intro x
    refine Eq.trans ?_ (window_emb m c t 0 (q_inb 0) x).symm
    rw [piece0_eq, hX]
    dsimp only [piece0, start, startWord, variant, variantWord, half]
    generalize View.ld (X0_0 m c t) (Rect.unit ![0, 0, 0] ![1, 128, 512] _) = q
    generalize View.ld (iblk m c 3 t) _ = B
    generalize View.ld (iblk m c 1 t) _ = k0
    generalize View.ld (iblk m c 1 t) _ = k1
    generalize View.ld (iblk m c 1 t) _ = k2
    generalize View.ld (iblk m c 2 t) _ = v0
    generalize View.ld (iblk m c 2 t) _ = v1
    generalize View.ld (iblk m c 2 t) _ = v2
    generalize hL : k0_pay6 (F := F) _ _ _ _ _ _ = L
    generalize hV : k0_pay7 (F := F) _ _ _ _ = V
    have hL' : logits q k0 k1 k2 B = L := hL
    have hV' : blockDiag v0 v1 v2 = V := hV
    unfold block
    rw [hL', hV']
    clear hL hV hL' hV'
    dsimp only [finish, weighted, pairWeights, pairRecip, weights, recip, top, head0, head1, head2, head3, head4, head5, head6, head7, outLow]
    dsimp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl

end Cert.KernelIdeal.Att

end
-- ==== Proof.Att.Host.lean ====
/- What the host hands the attention call, read at an index over the extended reals. -/
module

public import proofs.«01_k».proof.Proof.Att.Block
public import proofs.«01_k».proof.Proof.Gen.KernelIdeal.Frame
public import Idealize.ShloMosaic.Lib.StableHlo.Run
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- log2 e, as 1 / log 2. -/
def log2e  : FVec F S_ .f32 :=
  Host.divf ((constant S_ .f32 0x3F800000#32)) (Host.log ((constant S_ .f32 0x40000000#32)))

/-- The columns, the queries scaled. -/
def scaled (h : FVec F S16x4096x768 .f32) : FVec F S16x4096x768 .f32 :=
  mulf h (broadcastInDim S16x4096x768 ![0, 1, 2] bcast_S1x1x768_S16x4096x768_0_1_2 (broadcastInDim S1x1x768 ![2] bcast_S768_S1x1x768_2 ( concatenate S768 0 [⟨S512, (mulf (broadcastInDim S512 ![] bcast_S_S512 ((constant S_ .f32 0x3E000000#32))) (broadcastInDim S512 ![] bcast_S_S512 (log2e (F := F))))⟩, ⟨S256, (broadcastInDim S256 ![] bcast_S_S256 ((constant S_ .f32 0x3F800000#32)))⟩] concatenates_S512_S256_S768_d0)))

/-- The columns handed to the call: the scaled queries with the heads in pairs' order, then keys and values. -/
def qkvOf (h : FVec F S16x4096x768 .f32) : FVec F S16x4096x768 .bf16 :=
  truncf .bf16 ( concatenate S16x4096x768 2 [⟨S16x4096x512, (concatenate S16x4096x512 2 [⟨S16x4096x64, (extractStridedSlice S16x4096x64 ![0, 0, 0] (extractStridedSlice S16x4096x512 ![0, 0, 0] (scaled (F := F) h) slices_S16x4096x768_S16x4096x512_0_0_0) slices_S16x4096x512_S16x4096x64_0_0_0)⟩, ⟨S16x4096x64, (extractStridedSlice S16x4096x64 ![0, 0, 256] (extractStridedSlice S16x4096x512 ![0, 0, 0] (scaled (F := F) h) slices_S16x4096x768_S16x4096x512_0_0_0) slices_S16x4096x512_S16x4096x64_0_0_256)⟩, ⟨S16x4096x64, (extractStridedSlice S16x4096x64 ![0, 0, 64] (extractStridedSlice S16x4096x512 ![0, 0, 0] (scaled (F := F) h) slices_S16x4096x768_S16x4096x512_0_0_0) slices_S16x4096x512_S16x4096x64_0_0_64)⟩, ⟨S16x4096x64, (extractStridedSlice S16x4096x64 ![0, 0, 320] (extractStridedSlice S16x4096x512 ![0, 0, 0] (scaled (F := F) h) slices_S16x4096x768_S16x4096x512_0_0_0) slices_S16x4096x512_S16x4096x64_0_0_320)⟩, ⟨S16x4096x64, (extractStridedSlice S16x4096x64 ![0, 0, 128] (extractStridedSlice S16x4096x512 ![0, 0, 0] (scaled (F := F) h) slices_S16x4096x768_S16x4096x512_0_0_0) slices_S16x4096x512_S16x4096x64_0_0_128)⟩, ⟨S16x4096x64, (extractStridedSlice S16x4096x64 ![0, 0, 384] (extractStridedSlice S16x4096x512 ![0, 0, 0] (scaled (F := F) h) slices_S16x4096x768_S16x4096x512_0_0_0) slices_S16x4096x512_S16x4096x64_0_0_384)⟩, ⟨S16x4096x64, (extractStridedSlice S16x4096x64 ![0, 0, 192] (extractStridedSlice S16x4096x512 ![0, 0, 0] (scaled (F := F) h) slices_S16x4096x768_S16x4096x512_0_0_0) slices_S16x4096x512_S16x4096x64_0_0_192)⟩, ⟨S16x4096x64, (extractStridedSlice S16x4096x64 ![0, 0, 448] (extractStridedSlice S16x4096x512 ![0, 0, 0] (scaled (F := F) h) slices_S16x4096x768_S16x4096x512_0_0_0) slices_S16x4096x512_S16x4096x64_0_0_448)⟩] concatenates_S16x4096x64_S16x4096x64_S16x4096x64_S16x4096x64_S16x4096x64_S16x4096x64_S16x4096x64_S16x4096x64_S16x4096x512_d2)⟩, ⟨S16x4096x256, (extractStridedSlice S16x4096x256 ![0, 0, 512] (scaled (F := F) h) slices_S16x4096x768_S16x4096x256_0_0_512)⟩] concatenates_S16x4096x512_S16x4096x256_S16x4096x768_d2) bitsLt_bf16_f32

/-- The distance of a key from a query of the block. -/
def rel  : IVec S128x384 32 :=
  subi (broadcastInDim S128x384 ![0, 1] bcast_S1x384_S128x384_0_1 (subi (broadcastInDim S1x384 ![1] bcast_S384_S1x384_1 ((iotaInDim S384 32 0))) (broadcastInDim S1x384 ![] bcast_S_S1x384 ((constantI S_ 32 128#32))))) (broadcastInDim S128x384 ![0, 1] bcast_S128x1_S128x384_0_1 (broadcastInDim S128x1 ![0] bcast_S128_S128x1_0 ((iotaInDim S128 32 0))))

/-- Whether the key is in the window. -/
def inWindow  : IVec S128x384 1 :=
  cmpi .sle (absi rel) (broadcastInDim S128x384 ![] bcast_S_S128x384 ((constantI S_ 32 128#32)))

/-- The absolute distance. -/
def dist  : IVec S128x384 32 :=
  absi rel

/-- The number of the bucket. -/
def bucketRaw  : IVec S128x384 32 :=
  addi (select (cmpi .sgt rel (broadcastInDim S128x384 ![] bcast_S_S128x384 ((constantI S_ 32 0#32)))) ((broadcastInDim S128x384 ![] bcast_S_S128x384) ((constantI S_ 32 16#32))) ((broadcastInDim S128x384 ![] bcast_S_S128x384) ((constantI S_ 32 0#32)))) (select (cmpi .slt dist (broadcastInDim S128x384 ![] bcast_S_S128x384 ((constantI S_ 32 8#32)))) dist (minsi (addi (broadcastInDim S128x384 ![] bcast_S_S128x384 ((constantI S_ 32 8#32))) (fptosi (F := F) 32 (mulf (Host.divf (Host.log (Host.divf (sitofp (F := F) .f32 (maxsi dist (broadcastInDim S128x384 ![] bcast_S_S128x384 ((constantI S_ 32 1#32))))) (broadcastInDim S128x384 ![] bcast_S_S128x384 ((constant S_ .f32 0x41000000#32))))) (broadcastInDim S128x384 ![] bcast_S_S128x384 ((constant S_ .f32 0x40317218#32)))) (broadcastInDim S128x384 ![] bcast_S_S128x384 ((constant S_ .f32 0x41000000#32)))))) (broadcastInDim S128x384 ![] bcast_S_S128x384 ((constantI S_ 32 15#32)))))

/-- The bucket's number as an index. -/
def bucket  : IVec S128x384x1 32 :=
  broadcastInDim S128x384x1 ![0, 1] bcast_S128x384_S128x384x1_0_1 (select (cmpi .slt (bucketRaw (F := F)) (broadcastInDim S128x384 ![] bcast_S_S128x384 ((constantI S_ 32 0#32)))) (addi (bucketRaw (F := F)) (broadcastInDim S128x384 ![] bcast_S_S128x384 ((constantI S_ 32 32#32)))) (bucketRaw (F := F)))

/-- Every head's bias for a query and a key of the block. -/
def table (w : FVec F S32x8 .f32) : FVec F S8x128x384 .f32 :=
  transpose S8x128x384 [2, 0, 1] ( Host.gather gather_S32x8_S128x384x1_S128x384x8_2_0_n_n_0_2_18 w (bucket (F := F))) transposes_S128x384x8_S8x128x384_2_0_1

/-- The bias, scaled, minus infinity outside the window. -/
def bias0 (w : FVec F S32x8 .f32) : FVec F S8x128x384 .f32 :=
  select ((broadcastInDim S8x128x384 ![1, 2] bcast_S128x384_S8x128x384_1_2) inWindow) (mulf (table (F := F) w) (broadcastInDim S8x128x384 ![] bcast_S_S8x128x384 (log2e (F := F)))) ((broadcastInDim S8x128x384 ![] bcast_S_S8x128x384) ((constant S_ .f32 0xFF800000#32)))

/-- The number of a key's block. -/
def chunk  : IVec S384 32 :=
  select (andi ((cmpi .ne) (signi ((iotaInDim S384 32 0))) ((broadcastInDim S384 ![] bcast_S_S384) (signi ((constantI S_ 32 128#32))))) ((cmpi .ne) (Host.remsi ((iotaInDim S384 32 0)) ((broadcastInDim S384 ![] bcast_S_S384) ((constantI S_ 32 128#32)))) ((broadcastInDim S384 ![] bcast_S_S384) ((constantI S_ 32 0#32))))) (subi (Host.divsi ((iotaInDim S384 32 0)) ((broadcastInDim S384 ![] bcast_S_S384) ((constantI S_ 32 128#32)))) ((broadcastInDim S384 ![] bcast_S_S384) ((constantI S_ 32 1#32)))) (Host.divsi ((iotaInDim S384 32 0)) ((broadcastInDim S384 ![] bcast_S_S384) ((constantI S_ 32 128#32))))

/-- The bias of the first block. -/
def bias1 (w : FVec F S32x8 .f32) : FVec F S8x128x384 .f32 :=
  select ((broadcastInDim S8x128x384 ![2] bcast_S384_S8x128x384_2) (cmpi .eq chunk (broadcastInDim S384 ![] bcast_S_S384 ((constantI S_ 32 0#32))))) ((broadcastInDim S8x128x384 ![] bcast_S_S8x128x384) ((constant S_ .f32 0xFF800000#32))) (bias0 (F := F) w)

/-- The bias of the last block. -/
def bias2 (w : FVec F S32x8 .f32) : FVec F S8x128x384 .f32 :=
  select ((broadcastInDim S8x128x384 ![2] bcast_S384_S8x128x384_2) (cmpi .eq chunk (broadcastInDim S384 ![] bcast_S_S384 ((constantI S_ 32 2#32))))) ((broadcastInDim S8x128x384 ![] bcast_S_S8x128x384) ((constant S_ .f32 0xFF800000#32))) (bias0 (F := F) w)

/-- The three biases. -/
def biases (w : FVec F S32x8 .f32) : FVec F S3x8x128x384 .f32 :=
  concatenate S3x8x128x384 0 [⟨S1x8x128x384, (broadcastInDim S1x8x128x384 ![1, 2, 3] bcast_S8x128x384_S1x8x128x384_1_2_3 (bias0 (F := F) w))⟩, ⟨S1x8x128x384, (broadcastInDim S1x8x128x384 ![1, 2, 3] bcast_S8x128x384_S1x8x128x384_1_2_3 (bias1 (F := F) w))⟩, ⟨S1x8x128x384, (broadcastInDim S1x8x128x384 ![1, 2, 3] bcast_S8x128x384_S1x8x128x384_1_2_3 (bias2 (F := F) w))⟩] concatenates_S1x8x128x384_S1x8x128x384_S1x8x128x384_S3x8x128x384_d0

/-- The biases with the heads in pairs' order. -/
def ordered (w : FVec F S32x8 .f32) : FVec F S3x8x128x384 .f32 :=
  concatenate S3x8x128x384 1 [⟨S3x1x128x384, (broadcastInDim S3x1x128x384 ![0, 2, 3] bcast_S3x128x384_S3x1x128x384_0_2_3 (shapeCast S3x128x384 (extractStridedSlice S3x1x128x384 ![0, 0, 0, 0] (biases (F := F) w) slices_S3x8x128x384_S3x1x128x384_0_0_0_0) shapeCasts_S3x1x128x384_S3x128x384))⟩, ⟨S3x1x128x384, (broadcastInDim S3x1x128x384 ![0, 2, 3] bcast_S3x128x384_S3x1x128x384_0_2_3 (shapeCast S3x128x384 (extractStridedSlice S3x1x128x384 ![0, 4, 0, 0] (biases (F := F) w) slices_S3x8x128x384_S3x1x128x384_0_4_0_0) shapeCasts_S3x1x128x384_S3x128x384))⟩, ⟨S3x1x128x384, (broadcastInDim S3x1x128x384 ![0, 2, 3] bcast_S3x128x384_S3x1x128x384_0_2_3 (shapeCast S3x128x384 (extractStridedSlice S3x1x128x384 ![0, 1, 0, 0] (biases (F := F) w) slices_S3x8x128x384_S3x1x128x384_0_1_0_0) shapeCasts_S3x1x128x384_S3x128x384))⟩, ⟨S3x1x128x384, (broadcastInDim S3x1x128x384 ![0, 2, 3] bcast_S3x128x384_S3x1x128x384_0_2_3 (shapeCast S3x128x384 (extractStridedSlice S3x1x128x384 ![0, 5, 0, 0] (biases (F := F) w) slices_S3x8x128x384_S3x1x128x384_0_5_0_0) shapeCasts_S3x1x128x384_S3x128x384))⟩, ⟨S3x1x128x384, (broadcastInDim S3x1x128x384 ![0, 2, 3] bcast_S3x128x384_S3x1x128x384_0_2_3 (shapeCast S3x128x384 (extractStridedSlice S3x1x128x384 ![0, 2, 0, 0] (biases (F := F) w) slices_S3x8x128x384_S3x1x128x384_0_2_0_0) shapeCasts_S3x1x128x384_S3x128x384))⟩, ⟨S3x1x128x384, (broadcastInDim S3x1x128x384 ![0, 2, 3] bcast_S3x128x384_S3x1x128x384_0_2_3 (shapeCast S3x128x384 (extractStridedSlice S3x1x128x384 ![0, 6, 0, 0] (biases (F := F) w) slices_S3x8x128x384_S3x1x128x384_0_6_0_0) shapeCasts_S3x1x128x384_S3x128x384))⟩, ⟨S3x1x128x384, (broadcastInDim S3x1x128x384 ![0, 2, 3] bcast_S3x128x384_S3x1x128x384_0_2_3 (shapeCast S3x128x384 (extractStridedSlice S3x1x128x384 ![0, 3, 0, 0] (biases (F := F) w) slices_S3x8x128x384_S3x1x128x384_0_3_0_0) shapeCasts_S3x1x128x384_S3x128x384))⟩, ⟨S3x1x128x384, (broadcastInDim S3x1x128x384 ![0, 2, 3] bcast_S3x128x384_S3x1x128x384_0_2_3 (shapeCast S3x128x384 (extractStridedSlice S3x1x128x384 ![0, 7, 0, 0] (biases (F := F) w) slices_S3x8x128x384_S3x1x128x384_0_7_0_0) shapeCasts_S3x1x128x384_S3x128x384))⟩] concatenates_S3x1x128x384_S3x1x128x384_S3x1x128x384_S3x1x128x384_S3x1x128x384_S3x1x128x384_S3x1x128x384_S3x1x128x384_S3x8x128x384_d1

/-- The biases as handed to the call. -/
def biasOf (w : FVec F S32x8 .f32) : FVec F S3x512x768 .f32 :=
  shapeCast S3x512x768 (transpose S3x4x128x2x384 [0, 1, 3, 2, 4] (shapeCast S3x4x2x128x384 (ordered (F := F) w) shapeCasts_S3x8x128x384_S3x4x2x128x384) transposes_S3x4x2x128x384_S3x4x128x2x384_0_1_3_2_4) shapeCasts_S3x4x128x2x384_S3x512x768

/-- The sinks in a row. -/
def sinkRow (s : FVec F S1x8 .f32) : FVec F S8 .f32 :=
  shapeCast S8 s shapeCasts_S1x8_S8

/-- The sinks as handed to the call. -/
def sinksOf (s : FVec F S1x8 .f32) : FVec F S8 .f32 :=
  mulf (concatenate S8 0 [⟨S1, (extractStridedSlice S1 ![0] (sinkRow (F := F) s) slices_S8_S1_0)⟩, ⟨S1, (extractStridedSlice S1 ![4] (sinkRow (F := F) s) slices_S8_S1_4)⟩, ⟨S1, (extractStridedSlice S1 ![1] (sinkRow (F := F) s) slices_S8_S1_1)⟩, ⟨S1, (extractStridedSlice S1 ![5] (sinkRow (F := F) s) slices_S8_S1_5)⟩, ⟨S1, (extractStridedSlice S1 ![2] (sinkRow (F := F) s) slices_S8_S1_2)⟩, ⟨S1, (extractStridedSlice S1 ![6] (sinkRow (F := F) s) slices_S8_S1_6)⟩, ⟨S1, (extractStridedSlice S1 ![3] (sinkRow (F := F) s) slices_S8_S1_3)⟩, ⟨S1, (extractStridedSlice S1 ![7] (sinkRow (F := F) s) slices_S8_S1_7)⟩] concatenates_S1_S1_S1_S1_S1_S1_S1_S1_S8_d0) (broadcastInDim S8 ![] bcast_S_S8 (log2e (F := F)))

set_option maxHeartbeats 1000000 in
open StableHlo in
/-- What the call finds for the sinks. -/
theorem V_sinks (c : Dev nD) : V m c main_v125 = sinksOf (m ((c : Thread nD τ).loc main_arg2)) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    TRef.binary, TRef.ternary, TRef.unary, TRef.nullary, TRef.toBuf, TRef.ofBuf, cast_eq]
  after_results_simp
  dsimp only [Matrix.cons_val]
  simp (disch := decide) only [↓ readResult, ↓ readPieces, unary_result', binary_result', ternary_result', nullary_result', reshape_result', nary_result', nary_result_ne', reshape_result_ne', unary_result_ne', binary_result_ne', ternary_result_ne', nullary_result_ne']
  rfl

set_option maxHeartbeats 1000000 in
open StableHlo in
/-- What the call finds for the columns. -/
theorem V_qkv (c : Dev nD) : V m c main_v22 = qkvOf (m ((c : Thread nD τ).loc main_arg0)) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    TRef.binary, TRef.ternary, TRef.unary, TRef.nullary, TRef.toBuf, TRef.ofBuf, cast_eq]
  after_results_simp
  simp (disch := decide) only [↓ readResult, ↓ readPieces, unary_result', binary_result', ternary_result', nullary_result', reshape_result', nary_result', nary_result_ne', reshape_result_ne', unary_result_ne', binary_result_ne', ternary_result_ne', nullary_result_ne']
  dsimp only [Matrix.cons_val]
  simp (disch := decide) only [↓ readResult, ↓ readPieces, unary_result', binary_result', ternary_result', nullary_result', reshape_result', nary_result', nary_result_ne', reshape_result_ne', unary_result_ne', binary_result_ne', ternary_result_ne', nullary_result_ne']
  rfl

set_option maxHeartbeats 1000000 in
open StableHlo in
/-- What the call finds for the biases. -/
theorem V_bias (c : Dev nD) : V m c main_v111 = biasOf (m ((c : Thread nD τ).loc main_arg1)) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    TRef.binary, TRef.ternary, TRef.unary, TRef.nullary, TRef.toBuf, TRef.ofBuf, cast_eq]
  after_results_simp
  dsimp only [Matrix.cons_val]
  simp (disch := decide) only [↓ readResult, ↓ readPieces, unary_result', binary_result', ternary_result', nullary_result', reshape_result', nary_result', nary_result_ne', reshape_result_ne', unary_result_ne', binary_result_ne', ternary_result_ne', nullary_result_ne']
  dsimp only [Matrix.cons_val]
  simp (disch := decide) only [↓ readResult, ↓ readPieces, unary_result', binary_result', ternary_result', nullary_result', reshape_result', nary_result', nary_result_ne', reshape_result_ne', unary_result_ne', binary_result_ne', ternary_result_ne', nullary_result_ne']
  rfl

end Cert.KernelIdeal.Att

end
-- ==== Proof.Att.Windows.lean ====
/- The attention kernel's windows at an index, in the host's arrays. -/
module

public import proofs.«01_k».proof.Proof.Att.Pieces
public import proofs.«01_k».proof.Proof.Att.Host
public import Idealize.ShloMosaic.Lib.Pipeline.ValueKit.Point
public import Idealize.ShloMosaic.Lib.Pipeline.ValueKit.Geometry
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The grid's first coordinate at a point: which sequence it works on. -/
def batch (t : Fin cfg0.N) : Fin 16 := ⟨(grid0.coords t 0).val, (grid0.coords t 0).isLt⟩

/-- The block of window 0 at a grid point. -/
theorem index0 : ∀ t : Fin cfg0.N, win0_0.index t = ![(grid0.coords t 0).val, (grid0.coords t 1).val, 0] := (by decide +kernel : ∀ t : Fin grid0.N, _)
/-- The block of window 1 at a grid point. -/
theorem index1 : ∀ t : Fin cfg0.N, win0_1.index t = ![(grid0.coords t 0).val, 0, 4] := (by decide +kernel : ∀ t : Fin grid0.N, _)
/-- The block of window 2 at a grid point. -/
theorem index2 : ∀ t : Fin cfg0.N, win0_2.index t = ![(grid0.coords t 0).val, 0, 5] := (by decide +kernel : ∀ t : Fin grid0.N, _)
/-- The block of window 3 at a grid point. -/
theorem index3 : ∀ t : Fin cfg0.N, win0_3.index t = ![0, 0, 0] := (by decide +kernel : ∀ t : Fin grid0.N, _)
/-- The block of window 4 at a grid point. -/
theorem index4 : ∀ t : Fin cfg0.N, win0_4.index t = ![0] := (by decide +kernel : ∀ t : Fin grid0.N, _)
/-- The block of window 5 at a grid point. -/
theorem index5 : ∀ t : Fin cfg0.N, win0_5.index t = ![(grid0.coords t 0).val, (grid0.coords t 1).val, 0] := (by decide +kernel : ∀ t : Fin grid0.N, _)

/-- The queries' window holds the rows of the sequence's half. -/
theorem window0_at (c : Dev nD) (t : Fin cfg0.N) (x : Fin 2048) (l : Fin 512) :
    X0_0 m c t (ix3 0 x l) = V m c main_v22 (ix3 (batch t) ⟨2048 * (half t).val + x.val, by omega⟩ ⟨l.val, by omega⟩) := by
  unfold X0_0 Pipeline.Window.fill
  rw [dif_pos (moved0_0 t _)]
  blk_ext! [iblk, index0 t]
  · show (grid0.coords t 0).val + 0 = (grid0.coords t 0).val; omega
  · show (grid0.coords t 1).val * 2048 + x.val = 2048 * (grid0.coords t 1).val + x.val; omega

/-- The keys' window holds the sequence's key columns. -/
theorem window1_at (c : Dev nD) (t : Fin cfg0.N) (x : Fin 4096) (l : Fin 128) :
    iblk m c 1 t (ix3 0 x l) = V m c main_v22 (ix3 (batch t) ⟨x.val, by omega⟩ ⟨512 + l.val, by omega⟩) := by
  blk_ext! [iblk, index1 t]
  show (grid0.coords t 0).val + 0 = (grid0.coords t 0).val; omega

/-- The values' window holds the sequence's value columns. -/
theorem window2_at (c : Dev nD) (t : Fin cfg0.N) (x : Fin 4096) (l : Fin 128) :
    iblk m c 2 t (ix3 0 x l) = V m c main_v22 (ix3 (batch t) ⟨x.val, by omega⟩ ⟨640 + l.val, by omega⟩) := by
  blk_ext! [iblk, index2 t]
  show (grid0.coords t 0).val + 0 = (grid0.coords t 0).val; omega

/-- The bias's window is the whole bias. -/
theorem window3_at (c : Dev nD) (t : Fin cfg0.N) (v : Fin 3) (x : Fin 512) (y : Fin 768) :
    iblk m c 3 t (ix3 v x y) = V m c main_v111 (ix3 v x y) := by
  blk_ext! [iblk, index3 t]

/-- The sinks' window is all sinks. -/
theorem window4_at (c : Dev nD) (t : Fin cfg0.N) (j : Fin 8) : iblk m c 4 t (ix1 j) = V m c main_v125 (ix1 j) := by
  blk_ext! [iblk, index4 t]

end Cert.KernelIdeal.Att

end
-- ==== Proof.Att.Ideal.lean ====
/- A block of the attention kernel read at an index, over the extended reals. -/
module

public import proofs.«01_k».proof.Proof.Att.Block
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.TcCoe Idealize.SL.Sem

/-- The maximum of a row of logits and its sink. -/
def topAt (X : Fin 384 → EReal) (s : EReal) : EReal := max (Finset.univ.fold max (Ideal.ofBits .f32 0xFF800000#32) X) s

/-- The weights of a head at an index. -/
theorem weights_at (X : FVec Ideal S128x384 .f32) (s : Elt Ideal .f32) (r : Fin 128) (j : Fin 384) :
    weights X s (ix2 r j) = FloatOps.exp2 (F := Ideal) (φ := .f32) (X (ix2 r j) - topAt (fun x => X (ix2 r x)) s) := by
  pointwise [weights, top]
  rfl

/-- The reciprocal of a row's denominator. -/
theorem recip_at (X : FVec Ideal S128x384 .f32) (s : Elt Ideal .f32) (r : Fin 128) :
    recip X s (ix2 r 0) = Ideal.div 1 ((∑ j, FloatOps.exp2 (F := Ideal) (φ := .f32) (X (ix2 r j) - topAt (fun x => X (ix2 r x)) s))
      + FloatOps.exp2 (F := Ideal) (φ := .f32) (s - topAt (fun x => X (ix2 r x)) s)) := by
  pointwise [recip, weights, top]
  rfl

/-- A row of one head's logits, cut out of a block's. -/
def rowOf (L : FVec Ideal S512x768 .f32) (p : Fin 4) (side : Fin 2) (r : Fin 128) : Fin 384 → EReal :=
  fun j => L (ix2 ⟨128 * p.val + r.val, by omega⟩ ⟨384 * side.val + j.val, by omega⟩)

/-- A weight. -/
def weightAt (X : Fin 384 → EReal) (s : EReal) (j : Fin 384) : EReal := FloatOps.exp2 (F := Ideal) (φ := .f32) (X j - topAt X s)

/-- The reciprocal of a row's sum of weights. -/
def recipAt (X : Fin 384 → EReal) (s : EReal) : EReal :=
  Ideal.div 1 ((∑ j, weightAt X s j) + FloatOps.exp2 (F := Ideal) (φ := .f32) (s - topAt X s))

/-- A selection by the low half of the lanes. -/
theorem select_lt {α : Type} (l : Fin 128) (a b : α) :
    Scalar.select (IntOp.cmpi CmpIPredicate.slt (BitVec.ofNat 32 l.val) 64#32) a b = if l.val < 64 then a else b := by
  have : IntOp.cmpi CmpIPredicate.slt (BitVec.ofNat 32 l.val) 64#32 = if l.val < 64 then 1#1 else 0#1 := by
    revert l; decide
  rw [this]; split_ifs <;> rfl

/-- A pair's reciprocals: the low lanes the first head's, the high lanes the second's. -/
theorem pairRecip_at (X Y : FVec Ideal S128x384 .f32) (s t : Elt Ideal .f32) (r l : Fin 128) :
    pairRecip X Y s t (ix2 r l) = if l.val < 64 then recip X s (ix2 r 0) else recip Y t (ix2 r 0) := by
  pointwise [pairRecip, outLow]
  rw [select_lt]

/-- Pair 0's weighted values at an index. -/
theorem weighted_at0 (L : FVec Ideal S512x768 .f32) (V : FVec Ideal S768x128 .bf16) (s : Fin 8 → Elt Ideal .f32) (r : Fin 128) (l : Fin 128) :
    weighted L V s (ix2 ⟨r.val, by omega⟩ l)
      = ∑ j : Fin 384, weightAt (rowOf L 0 0 r) (s 0) j * V (ix2 ⟨j.val, by omega⟩ l)
        + ∑ j : Fin 384, weightAt (rowOf L 0 1 r) (s 1) j * V (ix2 ⟨384 + j.val, by omega⟩ l) := by
  have e0 : ∀ j, head0 L (ix2 r j) = rowOf L 0 0 r j := by
    intro j; pointwise [head0]; simp only [rowOf]; congr 2 <;> exact Fin.ext (by simp)
  have e1 : ∀ j, head1 L (ix2 r j) = rowOf L 0 1 r j := by
    intro j; pointwise [head1]; simp only [rowOf]; congr 2 <;> exact Fin.ext (by simp)
  pointwise [weighted, pairWeights]
  simp only [weights_at, e0, e1]
  rfl

/-- Pair 0's output at an index. -/
theorem finish_at0 (L : FVec Ideal S512x768 .f32) (V : FVec Ideal S768x128 .bf16) (s : Fin 8 → Elt Ideal .f32) (r : Fin 128) (l : Fin 128) :
    finish L V s (ix3 0 r ⟨l.val, by omega⟩)
      = (∑ j : Fin 384, weightAt (rowOf L 0 0 r) (s 0) j * V (ix2 ⟨j.val, by omega⟩ l)
        + ∑ j : Fin 384, weightAt (rowOf L 0 1 r) (s 1) j * V (ix2 ⟨384 + j.val, by omega⟩ l))
        * (if l.val < 64 then recipAt (rowOf L 0 0 r) (s 0) else recipAt (rowOf L 0 1 r) (s 1)) := by
  have e0 : ∀ j, head0 L (ix2 r j) = rowOf L 0 0 r j := by
    intro j; pointwise [head0]; simp only [rowOf]; congr 2 <;> exact Fin.ext (by simp)
  have e1 : ∀ j, head1 L (ix2 r j) = rowOf L 0 1 r j := by
    intro j; pointwise [head1]; simp only [rowOf]; congr 2 <;> exact Fin.ext (by simp)
  pointwise [finish]
  rw [pairRecip_at]
  simp only [recip_at, e0, e1]
  first
  | exact congrArg₂ (· * ·) (weighted_at0 L V s r l) rfl
  | (rw [weighted_at0]; rfl)

/-- Pair 0's logits at an index. -/
theorem logits_at0 (q : Vec Ideal S1x128x512 .bf16) (a b c : Vec Ideal S1x128x128 .bf16) (bias : Vec Ideal S1x512x768 .f32) (r : Fin 128) (j : Fin 768) :
    logits q a b c bias (ix2 ⟨r.val, by omega⟩ j)
      = ∑ x : Fin 128, q (ix3 0 r ⟨x.val, by omega⟩) * blockDiag a b c (ix2 j x) + bias (ix3 0 ⟨r.val, by omega⟩ j) := by
  pointwise [logits, queries]

/-- Pair 1's weighted values at an index. -/
theorem weighted_at1 (L : FVec Ideal S512x768 .f32) (V : FVec Ideal S768x128 .bf16) (s : Fin 8 → Elt Ideal .f32) (r : Fin 128) (l : Fin 128) :
    weighted L V s (ix2 ⟨128 + r.val, by omega⟩ l)
      = ∑ j : Fin 384, weightAt (rowOf L 1 0 r) (s 2) j * V (ix2 ⟨j.val, by omega⟩ l)
        + ∑ j : Fin 384, weightAt (rowOf L 1 1 r) (s 3) j * V (ix2 ⟨384 + j.val, by omega⟩ l) := by
  have e0 : ∀ j, head2 L (ix2 r j) = rowOf L 1 0 r j := by
    intro j; pointwise [head2]; simp only [rowOf]; congr 2 <;> exact Fin.ext (by simp)
  have e1 : ∀ j, head3 L (ix2 r j) = rowOf L 1 1 r j := by
    intro j; pointwise [head3]; simp only [rowOf]; congr 2 <;> exact Fin.ext (by simp)
  pointwise [weighted, pairWeights]
  simp only [weights_at, e0, e1]
  rfl

/-- Pair 1's output at an index. -/
theorem finish_at1 (L : FVec Ideal S512x768 .f32) (V : FVec Ideal S768x128 .bf16) (s : Fin 8 → Elt Ideal .f32) (r : Fin 128) (l : Fin 128) :
    finish L V s (ix3 0 r ⟨128 + l.val, by omega⟩)
      = (∑ j : Fin 384, weightAt (rowOf L 1 0 r) (s 2) j * V (ix2 ⟨j.val, by omega⟩ l)
        + ∑ j : Fin 384, weightAt (rowOf L 1 1 r) (s 3) j * V (ix2 ⟨384 + j.val, by omega⟩ l))
        * (if l.val < 64 then recipAt (rowOf L 1 0 r) (s 2) else recipAt (rowOf L 1 1 r) (s 3)) := by
  have e0 : ∀ j, head2 L (ix2 r j) = rowOf L 1 0 r j := by
    intro j; pointwise [head2]; simp only [rowOf]; congr 2 <;> exact Fin.ext (by simp)
  have e1 : ∀ j, head3 L (ix2 r j) = rowOf L 1 1 r j := by
    intro j; pointwise [head3]; simp only [rowOf]; congr 2 <;> exact Fin.ext (by simp)
  pointwise [finish]
  rw [pairRecip_at]
  simp only [recip_at, e0, e1]
  first
  | exact congrArg₂ (· * ·) (weighted_at1 L V s r l) rfl
  | (rw [weighted_at1]; rfl)

/-- Pair 1's logits at an index. -/
theorem logits_at1 (q : Vec Ideal S1x128x512 .bf16) (a b c : Vec Ideal S1x128x128 .bf16) (bias : Vec Ideal S1x512x768 .f32) (r : Fin 128) (j : Fin 768) :
    logits q a b c bias (ix2 ⟨128 + r.val, by omega⟩ j)
      = ∑ x : Fin 128, q (ix3 0 r ⟨128 + x.val, by omega⟩) * blockDiag a b c (ix2 j x) + bias (ix3 0 ⟨128 + r.val, by omega⟩ j) := by
  pointwise [logits, queries]

/-- Pair 2's weighted values at an index. -/
theorem weighted_at2 (L : FVec Ideal S512x768 .f32) (V : FVec Ideal S768x128 .bf16) (s : Fin 8 → Elt Ideal .f32) (r : Fin 128) (l : Fin 128) :
    weighted L V s (ix2 ⟨256 + r.val, by omega⟩ l)
      = ∑ j : Fin 384, weightAt (rowOf L 2 0 r) (s 4) j * V (ix2 ⟨j.val, by omega⟩ l)
        + ∑ j : Fin 384, weightAt (rowOf L 2 1 r) (s 5) j * V (ix2 ⟨384 + j.val, by omega⟩ l) := by
  have e0 : ∀ j, head4 L (ix2 r j) = rowOf L 2 0 r j := by
    intro j; pointwise [head4]; simp only [rowOf]; congr 2 <;> exact Fin.ext (by simp)
  have e1 : ∀ j, head5 L (ix2 r j) = rowOf L 2 1 r j := by
    intro j; pointwise [head5]; simp only [rowOf]; congr 2 <;> exact Fin.ext (by simp)
  pointwise [weighted, pairWeights]
  have h1 : ¬ 256 + r.val < 128 := by omega
  have h2 : ¬ 256 + r.val - 128 < 128 := by omega
  have h3 : 256 + r.val - 128 - 128 < 128 := by omega
  have h4 : ∀ h, (⟨256 + r.val - 128 - 128, h⟩ : Fin 128) = r := fun h => Fin.ext (by show 256 + r.val - 128 - 128 = r.val; omega)
  simp only [h1, h2, h3, h4, dif_neg, dif_pos, not_false_eq_true]
  simp only [weights_at, e0, e1]
  rfl

/-- Pair 2's output at an index. -/
theorem finish_at2 (L : FVec Ideal S512x768 .f32) (V : FVec Ideal S768x128 .bf16) (s : Fin 8 → Elt Ideal .f32) (r : Fin 128) (l : Fin 128) :
    finish L V s (ix3 0 r ⟨256 + l.val, by omega⟩)
      = (∑ j : Fin 384, weightAt (rowOf L 2 0 r) (s 4) j * V (ix2 ⟨j.val, by omega⟩ l)
        + ∑ j : Fin 384, weightAt (rowOf L 2 1 r) (s 5) j * V (ix2 ⟨384 + j.val, by omega⟩ l))
        * (if l.val < 64 then recipAt (rowOf L 2 0 r) (s 4) else recipAt (rowOf L 2 1 r) (s 5)) := by
  have e0 : ∀ j, head4 L (ix2 r j) = rowOf L 2 0 r j := by
    intro j; pointwise [head4]; simp only [rowOf]; congr 2 <;> exact Fin.ext (by simp)
  have e1 : ∀ j, head5 L (ix2 r j) = rowOf L 2 1 r j := by
    intro j; pointwise [head5]; simp only [rowOf]; congr 2 <;> exact Fin.ext (by simp)
  pointwise [finish]
  have h1 : ¬ 256 + l.val < 128 := by omega
  have h2 : ¬ 256 + l.val - 128 < 128 := by omega
  have h3 : 256 + l.val - 128 - 128 < 128 := by omega
  have h4 : ∀ h, (⟨256 + l.val - 128 - 128, h⟩ : Fin 128) = l := fun h => Fin.ext (by show 256 + l.val - 128 - 128 = l.val; omega)
  simp only [h1, h2, h3, h4, dif_neg, dif_pos, not_false_eq_true]
  rw [pairRecip_at]
  simp only [recip_at, e0, e1]
  first
  | exact congrArg₂ (· * ·) (weighted_at2 L V s r l) rfl
  | (rw [weighted_at2]; rfl)

/-- Pair 2's logits at an index. -/
theorem logits_at2 (q : Vec Ideal S1x128x512 .bf16) (a b c : Vec Ideal S1x128x128 .bf16) (bias : Vec Ideal S1x512x768 .f32) (r : Fin 128) (j : Fin 768) :
    logits q a b c bias (ix2 ⟨256 + r.val, by omega⟩ j)
      = ∑ x : Fin 128, q (ix3 0 r ⟨256 + x.val, by omega⟩) * blockDiag a b c (ix2 j x) + bias (ix3 0 ⟨256 + r.val, by omega⟩ j) := by
  pointwise [logits, queries]
  have h1 : ¬ 256 + r.val < 128 := by omega
  have h2 : ¬ 256 + r.val - 128 < 128 := by omega
  have h3 : 256 + r.val - 128 - 128 < 128 := by omega
  have h4 : ∀ h, (⟨256 + r.val - 128 - 128, h⟩ : Fin 128) = r := fun h => Fin.ext (by show 256 + r.val - 128 - 128 = r.val; omega)
  simp only [h1, h2, h3, h4, dif_neg, dif_pos, not_false_eq_true]

/-- Pair 3's weighted values at an index. -/
theorem weighted_at3 (L : FVec Ideal S512x768 .f32) (V : FVec Ideal S768x128 .bf16) (s : Fin 8 → Elt Ideal .f32) (r : Fin 128) (l : Fin 128) :
    weighted L V s (ix2 ⟨384 + r.val, by omega⟩ l)
      = ∑ j : Fin 384, weightAt (rowOf L 3 0 r) (s 6) j * V (ix2 ⟨j.val, by omega⟩ l)
        + ∑ j : Fin 384, weightAt (rowOf L 3 1 r) (s 7) j * V (ix2 ⟨384 + j.val, by omega⟩ l) := by
  have e0 : ∀ j, head6 L (ix2 r j) = rowOf L 3 0 r j := by
    intro j; pointwise [head6]; simp only [rowOf]; congr 2 <;> exact Fin.ext (by simp)
  have e1 : ∀ j, head7 L (ix2 r j) = rowOf L 3 1 r j := by
    intro j; pointwise [head7]; simp only [rowOf]; congr 2 <;> exact Fin.ext (by simp)
  pointwise [weighted, pairWeights]
  have h1 : ¬ 384 + r.val < 128 := by omega
  have h2 : ¬ 384 + r.val - 128 < 128 := by omega
  have h3 : ¬ 384 + r.val - 128 - 128 < 128 := by omega
  have h4 : ∀ h, (⟨384 + r.val - 128 - 128 - 128, h⟩ : Fin 128) = r := fun h => Fin.ext (by show 384 + r.val - 128 - 128 - 128 = r.val; omega)
  simp only [h1, h2, h3, h4, dif_neg, not_false_eq_true]
  simp only [weights_at, e0, e1]
  rfl

/-- Pair 3's output at an index. -/
theorem finish_at3 (L : FVec Ideal S512x768 .f32) (V : FVec Ideal S768x128 .bf16) (s : Fin 8 → Elt Ideal .f32) (r : Fin 128) (l : Fin 128) :
    finish L V s (ix3 0 r ⟨384 + l.val, by omega⟩)
      = (∑ j : Fin 384, weightAt (rowOf L 3 0 r) (s 6) j * V (ix2 ⟨j.val, by omega⟩ l)
        + ∑ j : Fin 384, weightAt (rowOf L 3 1 r) (s 7) j * V (ix2 ⟨384 + j.val, by omega⟩ l))
        * (if l.val < 64 then recipAt (rowOf L 3 0 r) (s 6) else recipAt (rowOf L 3 1 r) (s 7)) := by
  have e0 : ∀ j, head6 L (ix2 r j) = rowOf L 3 0 r j := by
    intro j; pointwise [head6]; simp only [rowOf]; congr 2 <;> exact Fin.ext (by simp)
  have e1 : ∀ j, head7 L (ix2 r j) = rowOf L 3 1 r j := by
    intro j; pointwise [head7]; simp only [rowOf]; congr 2 <;> exact Fin.ext (by simp)
  pointwise [finish]
  have h1 : ¬ 384 + l.val < 128 := by omega
  have h2 : ¬ 384 + l.val - 128 < 128 := by omega
  have h3 : ¬ 384 + l.val - 128 - 128 < 128 := by omega
  have h4 : ∀ h, (⟨384 + l.val - 128 - 128 - 128, h⟩ : Fin 128) = l := fun h => Fin.ext (by show 384 + l.val - 128 - 128 - 128 = l.val; omega)
  simp only [h1, h2, h3, h4, dif_neg, not_false_eq_true]
  rw [pairRecip_at]
  simp only [recip_at, e0, e1]
  first
  | exact congrArg₂ (· * ·) (weighted_at3 L V s r l) rfl
  | (rw [weighted_at3]; rfl)

/-- Pair 3's logits at an index. -/
theorem logits_at3 (q : Vec Ideal S1x128x512 .bf16) (a b c : Vec Ideal S1x128x128 .bf16) (bias : Vec Ideal S1x512x768 .f32) (r : Fin 128) (j : Fin 768) :
    logits q a b c bias (ix2 ⟨384 + r.val, by omega⟩ j)
      = ∑ x : Fin 128, q (ix3 0 r ⟨384 + x.val, by omega⟩) * blockDiag a b c (ix2 j x) + bias (ix3 0 ⟨384 + r.val, by omega⟩ j) := by
  pointwise [logits, queries]
  have h1 : ¬ 384 + r.val < 128 := by omega
  have h2 : ¬ 384 + r.val - 128 < 128 := by omega
  have h3 : ¬ 384 + r.val - 128 - 128 < 128 := by omega
  have h4 : ∀ h, (⟨384 + r.val - 128 - 128 - 128, h⟩ : Fin 128) = r := fun h => Fin.ext (by show 384 + r.val - 128 - 128 - 128 = r.val; omega)
  simp only [h1, h2, h3, h4, dif_neg, not_false_eq_true]

/-- The low rows of a block-diagonal matrix. -/
theorem bd_low (a b c : Vec Ideal S1x128x128 .bf16) (j : Fin 384) (l : Fin 128) :
    blockDiag a b c (ix2 ⟨j.val, by omega⟩ l) = if l.val < 64 then band a b c (ix2 j l) else 0 := by
  pointwise [blockDiag, low, zeros]
  rw [select_lt]

/-- The high rows of a block-diagonal matrix. -/
theorem bd_high (a b c : Vec Ideal S1x128x128 .bf16) (j : Fin 384) (l : Fin 128) :
    blockDiag a b c (ix2 ⟨384 + j.val, by omega⟩ l) = if l.val < 64 then 0 else band a b c (ix2 j l) := by
  pointwise [blockDiag, low, zeros]
  rw [select_lt]

/-- The block diagonal at side `side`: the band on that side's lanes, zero on the other's. -/
theorem bd_at (a b c : Vec Ideal S1x128x128 .bf16) (side : Fin 2) (j : Fin 384) (l : Fin 128) :
    blockDiag a b c (ix2 ⟨384 * side.val + j.val, by omega⟩ l) = if l.val / 64 = side.val then band a b c (ix2 j l) else 0 := by
  have hl := l.isLt
  match side with
  | 0 =>
    have e : (⟨384 * (0 : Fin 2).val + j.val, by simp; omega⟩ : Fin 768) = ⟨j.val, by omega⟩ := Fin.ext (by simp)
    refine (congrArg (fun i => blockDiag a b c (ix2 i l)) e).trans ((bd_low a b c j l).trans ?_)
    refine if_congr ?_ rfl rfl
    show _ ↔ l.val / 64 = 0
    omega
  | 1 =>
    refine (bd_high a b c j l).trans ?_
    by_cases h : l.val < 64
    · rw [if_pos h, if_neg (by show ¬ l.val / 64 = 1; omega)]
    · rw [if_neg h, if_pos (by show l.val / 64 = 1; omega)]

/-- A sum over the lanes of products with a side's lanes alone is a sum over that side. -/
theorem sum_side (g K : Fin 128 → EReal) (side : Fin 2) :
    ∑ x : Fin 128, g x * (if x.val / 64 = side.val then K x else 0)
      = ∑ d : Fin 64, g ⟨64 * side.val + d.val, by omega⟩ * K ⟨64 * side.val + d.val, by omega⟩ := by
  refine (Fin.sum_univ_add (a := 64) (b := 64) (fun x => g x * (if x.val / 64 = side.val then K x else 0))).trans ?_
  have lo : ∀ d : Fin 64, (Fin.castAdd 64 d).val / 64 = 0 := fun d => by show d.val / 64 = 0; omega
  have hi : ∀ d : Fin 64, (Fin.natAdd 64 d).val / 64 = 1 := fun d => by show (64 + d.val) / 64 = 1; omega
  simp only [lo, hi]
  match side with
  | 0 =>
    simp only [Fin.val_zero, if_true, one_ne_zero, if_false, mul_zero, Finset.sum_const_zero, add_zero, reduceCtorEq]
    refine Finset.sum_congr rfl fun d _ => ?_
    have e : Fin.castAdd 64 d = (⟨64 * (0 : Fin 2).val + d.val, by simp; omega⟩ : Fin 128) := Fin.ext (by simp)
    exact congrArg (fun i => g i * K i) e
  | 1 =>
    simp only [Fin.val_one, if_true, zero_ne_one, if_false, mul_zero, Finset.sum_const_zero, zero_add]
    rfl

/-- A row of one head's logits in a block: the products of its query with the keys of the band, and the bias. -/
def rowLogits (q : Vec Ideal S1x128x512 .bf16) (a b c : Vec Ideal S1x128x128 .bf16) (bias : Vec Ideal S1x512x768 .f32)
    (p : Fin 4) (side : Fin 2) (r : Fin 128) : Fin 384 → EReal := fun j =>
  ∑ d : Fin 64, q (ix3 0 r ⟨128 * p.val + (64 * side.val + d.val), by omega⟩) * band a b c (ix2 j ⟨64 * side.val + d.val, by omega⟩)
    + bias (ix3 0 ⟨128 * p.val + r.val, by omega⟩ ⟨384 * side.val + j.val, by omega⟩)

/-- The logits at an index. -/
theorem logits_at (q : Vec Ideal S1x128x512 .bf16) (a b c : Vec Ideal S1x128x128 .bf16) (bias : Vec Ideal S1x512x768 .f32)
    (p : Fin 4) (r : Fin 128) (j : Fin 768) :
    logits q a b c bias (ix2 ⟨128 * p.val + r.val, by omega⟩ j)
      = ∑ x : Fin 128, q (ix3 0 r ⟨128 * p.val + x.val, by omega⟩) * blockDiag a b c (ix2 j x) + bias (ix3 0 ⟨128 * p.val + r.val, by omega⟩ j) := by
  match p with
  | 0 =>
    have e : ∀ x : Fin 128, (⟨128 * (0 : Fin 4).val + x.val, by simp; omega⟩ : Fin 512) = ⟨x.val, by omega⟩ := fun x => Fin.ext (by simp)
    simp only [e]; exact logits_at0 q a b c bias r j
  | 1 => exact logits_at1 q a b c bias r j
  | 2 => exact logits_at2 q a b c bias r j
  | 3 => exact logits_at3 q a b c bias r j

/-- A head's rows of the logits. -/
theorem rowOf_logits (q : Vec Ideal S1x128x512 .bf16) (a b c : Vec Ideal S1x128x128 .bf16) (bias : Vec Ideal S1x512x768 .f32)
    (p : Fin 4) (side : Fin 2) (r : Fin 128) : rowOf (logits q a b c bias) p side r = rowLogits q a b c bias p side r := by
  funext j
  unfold rowOf rowLogits
  rw [logits_at]
  simp only [bd_at]
  rw [sum_side (fun x => q (ix3 0 r ⟨128 * p.val + x.val, by omega⟩)) (fun x => band a b c (ix2 j x)) side]

/-- The sink of a pair's side. -/
def sinkNo (p : Fin 4) (side : Fin 2) : Fin 8 := ⟨2 * p.val + side.val, by omega⟩

/-- A block's output at an index, from its logits. -/
theorem finish_at (L : FVec Ideal S512x768 .f32) (V : FVec Ideal S768x128 .bf16) (s : Fin 8 → Elt Ideal .f32) (p : Fin 4) (r : Fin 128) (l : Fin 128) :
    finish L V s (ix3 0 r ⟨128 * p.val + l.val, by omega⟩)
      = (∑ j : Fin 384, weightAt (rowOf L p 0 r) (s (sinkNo p 0)) j * V (ix2 ⟨j.val, by omega⟩ l)
        + ∑ j : Fin 384, weightAt (rowOf L p 1 r) (s (sinkNo p 1)) j * V (ix2 ⟨384 + j.val, by omega⟩ l))
        * (if l.val < 64 then recipAt (rowOf L p 0 r) (s (sinkNo p 0)) else recipAt (rowOf L p 1 r) (s (sinkNo p 1))) := by
  match p with
  | 0 =>
    have e : (⟨128 * (0 : Fin 4).val + l.val, by simp; omega⟩ : Fin 512) = ⟨l.val, by omega⟩ := Fin.ext (by simp)
    simp only [e]; exact finish_at0 L V s r l
  | 1 => exact finish_at1 L V s r l
  | 2 => exact finish_at2 L V s r l
  | 3 => exact finish_at3 L V s r l

/-- A block's output at an index: its head's weights against the head's column of values, times the reciprocal. -/
theorem block_at (q : Vec Ideal S1x128x512 .bf16) (k0 k1 k2 v0 v1 v2 : Vec Ideal S1x128x128 .bf16) (bias : Vec Ideal S1x512x768 .f32)
    (s : Fin 8 → Elt Ideal .f32) (p : Fin 4) (side : Fin 2) (r : Fin 128) (d : Fin 64) :
    block q k0 k1 k2 v0 v1 v2 bias s (ix3 0 r ⟨128 * p.val + (64 * side.val + d.val), by omega⟩)
      = (∑ j : Fin 384, weightAt (rowLogits q k0 k1 k2 bias p side r) (s (sinkNo p side)) j
          * band v0 v1 v2 (ix2 j ⟨64 * side.val + d.val, by omega⟩))
        * recipAt (rowLogits q k0 k1 k2 bias p side r) (s (sinkNo p side)) := by
  unfold block
  refine (finish_at _ _ s p r ⟨64 * side.val + d.val, by omega⟩).trans ?_
  simp only [bd_low, bd_high, rowOf_logits]
  match side with
  | 0 =>
    have h : 64 * (0 : Fin 2).val + d.val < 64 := by simp
    simp only [if_pos h, mul_zero, Finset.sum_const_zero, add_zero]
  | 1 =>
    have h : ¬ 64 * (1 : Fin 2).val + d.val < 64 := by simp
    simp only [if_neg h, mul_zero, Finset.sum_const_zero, zero_add]

end Cert.KernelIdeal.Att
end
-- ==== Proof.Att.Soft.lean ====
/- A row of attention: base two against base e, and the division after the sum against the division before it. -/
module

public import proofs.«01_k».proof.Proof.Att.Ideal
public import Mathlib.Analysis.SpecialFunctions.Log.Basic
public import Mathlib.Analysis.SpecialFunctions.Pow.Real

@[expose] public section

noncomputable section

namespace Cert.KernelIdeal.Att

open Idealize.ShloMosaic

/-- A row's maximum and its sink, natural base. -/
def topE (Y : Fin 384 → EReal) (σ : EReal) : EReal := max (Finset.univ.fold max (Ideal.ofBits .f32 0xFF800000#32) Y) σ

/-- One entry of a head's output as plain attention computes it. -/
def plainAt (Y V : Fin 384 → EReal) (σ : EReal) : EReal :=
  ∑ j, Ideal.div (Ideal.exp (Y j - topE Y σ)) ((∑ k, Ideal.exp (Y k - topE Y σ)) + Ideal.exp (σ - topE Y σ)) * V j

/-- The word of minus infinity. -/
theorem ofBits_bot : Ideal.ofBits .f32 0xFF800000#32 = (⊥ : EReal) := by
  simp [Ideal.ofBits, Ideal.ieee]

/-- log2 e as a real. -/
def lg : ℝ := 1 / Real.log 2

/-- The factor is positive. -/
theorem lg_pos : 0 < lg := by unfold lg; have := Real.log_pos (by norm_num : (1 : ℝ) < 2); positivity

/-- A sum of reals is the sum of their extended values. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- Two to the power of a number times log2 e is e to that number. -/
theorem rpow_lg (x : ℝ) : Real.rpow 2 (lg * x) = Real.exp x := by
  have h2 : (0 : ℝ) < 2 := by norm_num
  have hl : Real.log 2 ≠ 0 := (Real.log_pos (by norm_num)).ne'
  show (2 : ℝ) ^ (lg * x) = _
  rw [Real.rpow_def_of_pos h2]
  congr 1
  unfold lg
  field_simp

/-- Scaling keeps the order. -/
theorem scale_mono : Monotone fun x : EReal => (lg : EReal) * x := by
  intro x y h
  exact mul_le_mul_of_nonneg_left h (EReal.coe_nonneg.mpr lg_pos.le)

/-- Scaling keeps minus infinity. -/
theorem scale_bot : (lg : EReal) * ⊥ = ⊥ := EReal.coe_mul_bot_of_pos lg_pos

/-- The scaled row's maximum is the scaled maximum. -/
theorem topAt_scale (Y : Fin 384 → EReal) (σ : EReal) :
    topAt (fun j => (lg : EReal) * Y j) ((lg : EReal) * σ) = (lg : EReal) * topE Y σ := by
  unfold topAt topE
  rw [scale_mono.map_max, ofBits_bot]
  congr 1
  have := Finset.fold_hom (op := max) (op' := max) (b := (⊥ : EReal)) (f := Y) (s := Finset.univ) (m := fun x : EReal => (lg : EReal) * x)
    (fun x y => scale_mono.map_max)
  simp only [scale_bot] at this
  exact this

/-- The power of two of a scaled difference is the exponential of the difference. -/
theorem exp2_scale (y : EReal) (μ : ℝ) (hy : y = ⊥ ∨ ∃ r : ℝ, y = r) :
    Ideal.exp2 ((lg : EReal) * y - (lg : EReal) * μ) = Ideal.exp (y - μ) := by
  rcases hy with rfl | ⟨r, rfl⟩
  · rw [scale_bot, EReal.bot_sub, EReal.bot_sub]; rfl
  · rw [← EReal.coe_mul, ← EReal.coe_mul, ← EReal.coe_sub, ← EReal.coe_sub, Ideal.exp2_coe, Ideal.exp_coe, ← mul_sub, rpow_lg]

/-- The kernel's row against plain attention's: the logits scaled by log2 e, the values alike wherever the key is not masked. -/
theorem soft_eq (X Y U V : Fin 384 → EReal) (σ : ℝ) (hX : ∀ j, X j = (lg : EReal) * Y j)
    (hY : ∀ j, (Y j = ⊥ ∨ ∃ r : ℝ, Y j = r)) (hU : ∀ j, ∃ r : ℝ, U j = r) (hV : ∀ j, ∃ r : ℝ, V j = r)
    (hUV : ∀ j, Y j = ⊥ ∨ U j = V j) :
    (∑ j, weightAt X ((lg : EReal) * σ) j * U j) * recipAt X ((lg : EReal) * σ) = plainAt Y V σ := by
  obtain rfl : X = fun j => (lg : EReal) * Y j := funext hX
  have htop : topE Y σ ≠ ⊤ := by
    apply ne_of_lt
    unfold topE
    rw [ofBits_bot]
    refine max_lt ?_ (EReal.coe_lt_top σ)
    rw [Finset.fold_max_lt]
    refine ⟨bot_lt_top, fun j _ => ?_⟩
    rcases hY j with h | ⟨r, h⟩ <;> rw [h]
    · exact bot_lt_top
    · exact EReal.coe_lt_top r
  have hbot : topE Y σ ≠ ⊥ := by
    apply ne_of_gt
    exact lt_of_lt_of_le (EReal.bot_lt_coe σ) (le_max_right _ _)
  obtain ⟨μ, hμ⟩ : ∃ μ : ℝ, topE Y σ = μ := ⟨_, (EReal.coe_toReal htop hbot).symm⟩
  have hw : ∀ j, weightAt (fun j => (lg : EReal) * Y j) ((lg : EReal) * σ) j = Ideal.exp (Y j - μ) := by
    intro j
    unfold weightAt
    rw [topAt_scale, hμ]
    exact exp2_scale (Y j) μ (hY j)
  have hs : FloatOps.exp2 (F := Ideal) (φ := .f32) ((lg : EReal) * σ - topAt (fun j => (lg : EReal) * Y j) ((lg : EReal) * σ)) = Ideal.exp ((σ : EReal) - μ) := by
    rw [topAt_scale, hμ]
    exact exp2_scale σ μ (.inr ⟨σ, rfl⟩)
  have he : ∀ j, ∃ e : ℝ, 0 ≤ e ∧ Ideal.exp (Y j - μ) = e ∧ (Y j = ⊥ → e = 0) := by
    intro j
    rcases hY j with h | ⟨r, h⟩
    · exact ⟨0, le_rfl, by rw [h, EReal.bot_sub]; rfl, fun _ => rfl⟩
    · exact ⟨Real.exp (r - μ), (Real.exp_pos _).le, by rw [h, ← EReal.coe_sub]; rfl, fun hb => by rw [h] at hb; exact absurd hb (EReal.coe_ne_bot r)⟩
  choose e e0 ee eb using he
  choose u hu using hU
  choose v hv using hV
  have hes : Ideal.exp ((σ : EReal) - μ) = (Real.exp (σ - μ) : ℝ) := by rw [← EReal.coe_sub]; rfl
  set δ : ℝ := (∑ j, e j) + Real.exp (σ - μ) with hδ
  have hδ0 : 0 < δ := add_pos_of_nonneg_of_pos (Finset.sum_nonneg fun j _ => e0 j) (Real.exp_pos _)
  have hden : (∑ k, Ideal.exp (Y k - μ)) + Ideal.exp ((σ : EReal) - μ) = (δ : EReal) := by
    rw [hes, hδ, EReal.coe_add, coe_sum]
    simp only [ee]
  have hdiv : ∀ x : ℝ, Ideal.div (x : EReal) (δ : EReal) = ((x / δ : ℝ) : EReal) := by
    intro x
    unfold Ideal.div
    rw [if_neg (by exact_mod_cast hδ0.ne'), ← EReal.coe_inv, ← EReal.coe_mul, div_eq_mul_inv]
  unfold recipAt plainAt
  rw [hs, hμ]
  simp only [hw]
  simp only [hden]
  simp only [ee, hu, hv]
  rw [show (1 : EReal) = ((1 : ℝ) : EReal) from rfl, hdiv]
  simp only [hdiv, ← EReal.coe_mul, ← coe_sum]
  congr 1
  rw [Finset.sum_mul]
  refine Finset.sum_congr rfl fun j _ => ?_
  rcases hUV j with h | h
  · rw [eb j h]; simp
  · have : u j = v j := by rw [hu, hv] at h; exact_mod_cast h
    rw [this]; field_simp

end Cert.KernelIdeal.Att

end
-- ==== Proof.Att.HostAt.lean ====
/- The host values of the attention call at an index, over the extended reals. -/
module

public import proofs.«01_k».proof.Proof.Att.Host
public import proofs.«01_k».proof.Proof.Att.Soft
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.TcCoe Idealize.SL.Sem

/-- The word of 2. -/
theorem ofBits_two : Ideal.ofBits .f32 0x40000000#32 = ((2 : ℝ) : EReal) := by
  simp [Ideal.ofBits, Ideal.ieee]; rw [← EReal.coe_mul]; norm_num

/-- The word of 1/8. -/
theorem ofBits_eighth : Ideal.ofBits .f32 0x3E000000#32 = ((1/8 : ℝ) : EReal) := by
  simp [Ideal.ofBits, Ideal.ieee]; rw [← EReal.coe_mul]; norm_num

/-- The host's factor is 1/log 2. -/
theorem log2e_at : log2e (F := Ideal) ix0 = (lg : EReal) := by
  pointwise [log2e]
  have h2 : (0 : ℝ) < Real.log 2 := Real.log_pos (by norm_num)
  rw [ofBits_two, Ideal.log_coe, if_neg (by norm_num)]
  simp only [Ideal.div, lg]
  rw [if_neg (by exact_mod_cast h2.ne'), ← EReal.coe_inv]
  simp

/-- The head at a position of the pairs' order. -/
def headNo (p : Fin 4) (side : Fin 2) : Fin 8 := ⟨4 * side.val + p.val, by omega⟩

/-- The sinks handed to the kernel are the heads' sinks, ordered and scaled. -/
theorem sinksOf_at (s : FVec Ideal S1x8 .f32) (p : Fin 4) (side : Fin 2) :
    sinksOf s (ix1 ⟨2 * p.val + side.val, by omega⟩) = s (ix2 0 (headNo p side)) * (lg : EReal) := by
  rw [← log2e_at]
  fin_cases p <;> fin_cases side <;> (pointwise [sinksOf, sinkRow]; rfl)

/-- A query column of the scaled input. -/
theorem scaled_q (h : FVec Ideal S16x4096x768 .f32) (b : Fin 16) (n : Fin 4096) (l : Fin 512) :
    scaled h (ix3 b n ⟨l.val, by omega⟩) = h (ix3 b n ⟨l.val, by omega⟩) * (((1/8 : ℝ) : EReal) * (lg : EReal)) := by
  rw [← log2e_at, ← ofBits_eighth]
  pointwise [scaled]

/-- A key or value column of the scaled input is the input's. -/
theorem scaled_kv (h : FVec Ideal S16x4096x768 .f32) (b : Fin 16) (n : Fin 4096) (l : Fin 256) :
    scaled h (ix3 b n ⟨512 + l.val, by omega⟩) = h (ix3 b n ⟨512 + l.val, by omega⟩) * 1 := by
  rw [← Ideal.ofBits_one_f32]
  pointwise [scaled]

set_option maxHeartbeats 1000000 in
/-- A query entry handed to the kernel: the head's, scaled. -/
theorem qkvOf_q (h : FVec Ideal S16x4096x768 .f32) (b : Fin 16) (n : Fin 4096) (p : Fin 4) (side : Fin 2) (d : Fin 64) :
    qkvOf h (ix3 b n ⟨128 * p.val + (64 * side.val + d.val), by omega⟩)
      = h (ix3 b n ⟨64 * (headNo p side).val + d.val, by unfold headNo; simp only; omega⟩) * (((1/8 : ℝ) : EReal) * (lg : EReal)) := by
  rw [← scaled_q h b n ⟨64 * (headNo p side).val + d.val, by unfold headNo; simp only; omega⟩]
  generalize hX : scaled h = X
  fin_cases p <;> fin_cases side
  all_goals
    pointwise [qkvOf, hX]
    split_ifs <;> first
      | omega
      | exact congrArg (fun k => X (ix3 b n k)) (Fin.ext (by first | rfl | (simp [headNo]; done) | (simp [headNo]; omega) | (simp only [headNo]; omega)))

/-- A key or value entry handed to the kernel is the input's. -/
theorem qkvOf_kv (h : FVec Ideal S16x4096x768 .f32) (b : Fin 16) (n : Fin 4096) (l : Fin 256) :
    qkvOf h (ix3 b n ⟨512 + l.val, by omega⟩) = h (ix3 b n ⟨512 + l.val, by omega⟩) := by
  rw [← mul_one (h _), ← scaled_kv]
  pointwise [qkvOf]

end Cert.KernelIdeal.Att

end
-- ==== Proof.Att.BiasAt.lean ====
/- The biases of the attention call at an index, over the extended reals. -/
module

public import proofs.«01_k».proof.Proof.Att.Host
public import proofs.«01_k».proof.Proof.Att.HostAt
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.TcCoe Idealize.SL.Sem

/-- The ordered biases at an index: position 2p+side holds head 4·side+p. -/
theorem ordered_at (w : FVec Ideal S32x8 .f32) (v : Fin 3) (p : Fin 4) (side : Fin 2) (r : Fin 128) (j : Fin 384) :
    ordered w (ix4 v ⟨2 * p.val + side.val, by omega⟩ r j) = biases w (ix4 v (headNo p side) r j) := by
  generalize hX : biases w = X
  fin_cases p <;> fin_cases side
  all_goals
    pointwise [ordered, hX]
    rfl

/-- The bias handed to the kernel at an index, in the biases by head. -/
theorem biasOf_at (w : FVec Ideal S32x8 .f32) (v : Fin 3) (p : Fin 4) (side : Fin 2) (r : Fin 128) (j : Fin 384) :
    biasOf w (ix3 v ⟨128 * p.val + r.val, by omega⟩ ⟨384 * side.val + j.val, by omega⟩)
      = biases w (ix4 v (headNo p side) r j) := by
  rw [← ordered_at]
  pointwise [biasOf]
  exact congrArg (fun k => ordered w (ix4 v k r j)) (Fin.ext (by simp only; omega))

/-- The first variant is the plain bias. -/
theorem biases_at0 (w : FVec Ideal S32x8 .f32) (h : Fin 8) (r : Fin 128) (j : Fin 384) :
    biases w (ix4 0 h r j) = bias0 w (ix3 h r j) := by
  generalize hX : bias0 w = X
  generalize hY : bias1 w = Y
  generalize hZ : bias2 w = Z
  pointwise [biases, hX, hY, hZ]

/-- The second variant is the first block's bias. -/
theorem biases_at1 (w : FVec Ideal S32x8 .f32) (h : Fin 8) (r : Fin 128) (j : Fin 384) :
    biases w (ix4 1 h r j) = bias1 w (ix3 h r j) := by
  generalize hX : bias0 w = X
  generalize hY : bias1 w = Y
  generalize hZ : bias2 w = Z
  pointwise [biases, hX, hY, hZ]

/-- The third variant is the last block's bias. -/
theorem biases_at2 (w : FVec Ideal S32x8 .f32) (h : Fin 8) (r : Fin 128) (j : Fin 384) :
    biases w (ix4 2 h r j) = bias2 w (ix3 h r j) := by
  generalize hX : bias0 w = X
  generalize hY : bias1 w = Y
  generalize hZ : bias2 w = Z
  pointwise [biases, hX, hY, hZ]

/-- The plain bias: the scaled table in the window, minus infinity outside. -/
theorem bias0_at (w : FVec Ideal S32x8 .f32) (h : Fin 8) (r : Fin 128) (j : Fin 384) :
    bias0 w (ix3 h r j) = Scalar.select (inWindow (ix2 r j)) (table w (ix3 h r j) * (lg : EReal)) (⊥ : EReal) := by
  rw [← log2e_at, ← ofBits_bot]
  generalize hX : table w = X
  generalize hY : inWindow = Y
  pointwise [bias0, hX, hY]

/-- The first block's bias: its first 128 keys are masked. -/
theorem bias1_at (w : FVec Ideal S32x8 .f32) (h : Fin 8) (r : Fin 128) (j : Fin 384) :
    bias1 w (ix3 h r j) = if j.val < 128 then ⊥ else bias0 w (ix3 h r j) := by
  have hc : ∀ j : Fin 384, IntOp.cmpi .eq (chunk (ix1 j)) 0#32 = if j.val < 128 then 1#1 else 0#1 := by decide +kernel
  rw [← ofBits_bot]
  generalize hX : bias0 w = X
  have hj := hc j
  generalize hY : chunk = Y at hj
  pointwise [bias1, hX, hY]
  rw [hj]; split_ifs <;> rfl

/-- The last block's bias: its last 128 keys are masked. -/
theorem bias2_at (w : FVec Ideal S32x8 .f32) (h : Fin 8) (r : Fin 128) (j : Fin 384) :
    bias2 w (ix3 h r j) = if 256 ≤ j.val then ⊥ else bias0 w (ix3 h r j) := by
  have hc : ∀ j : Fin 384, IntOp.cmpi .eq (chunk (ix1 j)) 2#32 = if 256 ≤ j.val then 1#1 else 0#1 := by decide +kernel
  rw [← ofBits_bot]
  generalize hX : bias0 w = X
  have hj := hc j
  generalize hY : chunk = Y at hj
  pointwise [bias2, hX, hY]
  rw [hj]; split_ifs <;> rfl

end Cert.KernelIdeal.Att

end
-- ==== Proof.Att.RefAt.lean ====
/- Plain attention's keys, values and mask at an index over the extended reals. -/
module

public import proofs.«01_k».proof.Proof.Gen.ReferenceIdeal.Read
public import Idealize.ShloMosaic.Lib.KernelVsHost
public import Idealize.ShloMosaic.Lib.Pointwise

@[expose] public section

set_option maxRecDepth 16384

noncomputable section

namespace Cert.KernelIdeal.Att

open Idealize.ShloMosaic Cert.ReferenceIdeal Cert.ReferenceIdeal.Gen Cert.ReferenceIdeal.Read

/-- The padded keys at an index. -/
theorem padK (h : FVec Ideal S16x4096x768 .f32) (b : Fin 16) (r : Fin 4352) (l : Fin 128) :
    val_main_v3 (F := Ideal) h (ix3 b r l)
      = if hr : 128 ≤ r.val ∧ r.val < 4224 then h (ix3 b ⟨r.val - 128, by omega⟩ ⟨512 + l.val, by omega⟩) else 0 := by
  pointwise [val_main_v3, val_main_v2, val_main_call0_v0]
  have h0 : FloatOps.sitofp (F := Ideal) FTy.f32 (val_main_c (F := Ideal) (Shape.Idx.first h_S_)) = (0 : EReal) := by
    show (((0#32 : BitVec 32).toInt : ℝ) : EReal) = 0
    simp
  rw [h0]
  exact dite_congr (propext (by omega)) (fun _ => rfl) (fun _ => rfl)

/-- The reference's band of keys at an index. -/
theorem bandK (h : FVec Ideal S16x4096x768 .f32) (b : Fin 16) (n : Fin 32) (j : Fin 384) (g : Fin 2) (d : Fin 64) :
    val_main_v11 (F := Ideal) h (ix5 b n j g d)
      = val_main_v3 (F := Ideal) h (ix3 b ⟨128 * n.val + j.val, by omega⟩ ⟨64 * g.val + d.val, by omega⟩) := by
  generalize hX : val_main_v3 (F := Ideal) h = X
  pointwise [val_main_v11, val_main_v10, val_main_v9, val_main_v8, val_main_v4, hX]
  split_ifs <;> exact congrArg₂ (fun k l => X (ix3 b k l)) (Fin.ext (by simp only; omega)) (Fin.ext (by simp only; omega))

/-- The reference's queries at an index. -/
theorem refQ (h : FVec Ideal S16x4096x768 .f32) (b : Fin 16) (n : Fin 32) (r : Fin 128) (g : Fin 2) (q : Fin 4) (d : Fin 64) :
    val_main_v1 (F := Ideal) h (ix6 b n r g q d)
      = h (ix3 b ⟨128 * n.val + r.val, by omega⟩ ⟨64 * (4 * g.val + q.val) + d.val, by omega⟩) := by
  pointwise [val_main_v1, val_main_v0]
  exact congrArg₂ (fun k l => h (ix3 b k l)) (Fin.ext (by simp only; omega)) (Fin.ext (by simp only; omega))

/-- The padded values at an index. -/
theorem padV (h : FVec Ideal S16x4096x768 .f32) (b : Fin 16) (r : Fin 4352) (l : Fin 128) :
    val_main_v6 (F := Ideal) h (ix3 b r l)
      = if hr : 128 ≤ r.val ∧ r.val < 4224 then h (ix3 b ⟨r.val - 128, by omega⟩ ⟨640 + l.val, by omega⟩) else 0 := by
  pointwise [val_main_v6, val_main_v5, val_main_call1_v0]
  have h0 : FloatOps.sitofp (F := Ideal) FTy.f32 (val_main_c_0 (F := Ideal) (Shape.Idx.first h_S_)) = (0 : EReal) := by
    show (((0#32 : BitVec 32).toInt : ℝ) : EReal) = 0
    simp
  rw [h0]
  exact dite_congr (propext (by omega)) (fun _ => rfl) (fun _ => rfl)

/-- The reference's band of values at an index. -/
theorem bandV (h : FVec Ideal S16x4096x768 .f32) (b : Fin 16) (n : Fin 32) (j : Fin 384) (g : Fin 2) (d : Fin 64) :
    val_main_v15 (F := Ideal) h (ix5 b n j g d)
      = val_main_v6 (F := Ideal) h (ix3 b ⟨128 * n.val + j.val, by omega⟩ ⟨64 * g.val + d.val, by omega⟩) := by
  generalize hX : val_main_v6 (F := Ideal) h = X
  pointwise [val_main_v15, val_main_v14, val_main_v13, val_main_v12, val_main_v7, hX]
  split_ifs <;> exact congrArg₂ (fun k l => X (ix3 b k l)) (Fin.ext (by simp only; omega)) (Fin.ext (by simp only; omega))

/-- Whether block `n`'s key `j` lies in the sequence. -/
theorem inside_at (n : Fin 32) (j : Fin 384) :
    val_main_v78 (F := Ideal) (ix2 n j) = if (n.val = 0 ∧ j.val < 128) ∨ (n.val = 31 ∧ 256 ≤ j.val) then 0#1 else 1#1 := by
  have hc : ∀ (n : Fin 32) (j : Fin 384), IntOp.andi (IntOp.cmpi .sge (IntOp.addi (IntOp.subi (IntOp.muli (BitVec.ofNat 32 n.val) 128#32) 128#32) (BitVec.ofNat 32 j.val)) 0#32)
      (IntOp.cmpi .slt (IntOp.addi (IntOp.subi (IntOp.muli (BitVec.ofNat 32 n.val) 128#32) 128#32) (BitVec.ofNat 32 j.val)) 4096#32)
      = if (n.val = 0 ∧ j.val < 128) ∨ (n.val = 31 ∧ 256 ≤ j.val) then 0#1 else 1#1 := by decide +kernel
  rw [← hc]
  pointwise [val_main_v78, val_main_v77, val_main_v76, val_main_v75, val_main_v74, val_main_v73, val_main_v72, val_main_v71, val_main_v70, val_main_v69, val_main_v68, val_main_v67, val_main_v66, val_main_v65, val_main_v64, val_main_v63, val_main_c_14, val_main_c_15, val_main_c_16, val_main_c_17]

/-- A masked logit. -/
theorem masked_at (h : FVec Ideal S16x4096x768 .f32) (w : FVec Ideal S32x8 .f32) (b : Fin 16) (n : Fin 32) (g : Fin 2) (q : Fin 4) (r : Fin 128) (j : Fin 384) :
    val_main_v92 (F := Ideal) h w (ix6 b n g q r j)
      = Scalar.select (IntOp.andi (val_main_v27 (F := Ideal) (ix2 r j)) (val_main_v78 (F := Ideal) (ix2 n j)))
          ((∑ d : Fin 64, val_main_v11 (F := Ideal) h (ix5 b n j g d) * val_main_v1 (F := Ideal) h (ix6 b n r g q d)) * Ideal.ofBits .f32 0x3E000000#32
            + val_main_v59 (F := Ideal) w (ix3 ⟨4 * g.val + q.val, by omega⟩ r j)) (Ideal.ofBits .f32 0xFF800000#32) := by
  generalize hK : val_main_v11 (F := Ideal) h = K
  generalize hQ : val_main_v1 (F := Ideal) h = Q
  generalize hT : val_main_v59 (F := Ideal) w = T
  generalize hW : val_main_v27 (F := Ideal) = W
  generalize hI : val_main_v78 (F := Ideal) = I
  pointwise [val_main_v92, val_main_call4_v1, val_main_call4_v2, val_main_call4_v0, val_main_cst_19, val_main_v91, val_main_v83, val_main_v82, val_main_v81, val_main_v80, val_main_v79, val_main_v90, val_main_v89, val_main_v88, val_main_v60, val_main_v87, val_main_v86, val_main_cst_18, val_main_v85, val_main_v84, hK, hQ, hT, hW, hI]
  rw [show (⟨g.val * 4 + q.val, by omega⟩ : Fin 8) = ⟨4 * g.val + q.val, by omega⟩ from Fin.ext (by simp only; omega)]
  rfl

/-- The reference's largest logit of a row. -/
theorem refMax_at (h : FVec Ideal S16x4096x768 .f32) (w : FVec Ideal S32x8 .f32) (b : Fin 16) (n : Fin 32) (g : Fin 2) (q : Fin 4) (r : Fin 128) :
    val_main_v93 (F := Ideal) h w (ix5 b n g q r)
      = Finset.univ.fold max (Ideal.ofBits .f32 0xFF800000#32) fun j : Fin 384 => val_main_v92 (F := Ideal) h w (ix6 b n g q r j) := by
  unfold val_main_v93
  generalize val_main_v92 (F := Ideal) h w = L
  have hr : S16x32x2x4x128x384.Reduces [5] S16x32x2x4x128 := by decide
  have e := Host.reduce_eq_fold_single (FloatOps.maximumf (F := Ideal) (φ := .f32)) L (val_main_cst_20 (F := Ideal)) reducesTo_S16x32x2x4x128x384_S16x32x2x4x128_d5 hr h_S_ (ix5 b n g q r)
  have f : L ∘ hr.lift (ix5 b n g q r) = fun j : Fin 384 => L (ix6 b n g q r j) := funext fun k => ?_
  · rw [e, f, val_main_cst_20_apply]
    generalize (fun j : Fin 384 => L (ix6 b n g q r j)) = Y
    rfl
  exact congrArg L (funext fun a => Fin.ext (by match a with | ⟨0, _⟩ => rfl | ⟨1, _⟩ => rfl | ⟨2, _⟩ => rfl | ⟨3, _⟩ => rfl | ⟨4, _⟩ => rfl | ⟨5, _⟩ => rfl))

/-- The reference's sink of a row. -/
theorem refSink_at (s : FVec Ideal S1x8 .f32) (b : Fin 16) (n : Fin 32) (g : Fin 2) (q : Fin 4) (r : Fin 128) :
    val_main_v95 (F := Ideal) s (ix5 b n g q r) = s (ix2 0 ⟨4 * g.val + q.val, by omega⟩) := by
  pointwise [val_main_v95, val_main_v94, val_main_v62, val_main_v61]
  exact congrArg (fun k => s (ix2 0 k)) (Fin.ext (by simp only; omega))

/-- The reference's maximum, its sink included, at an index. -/
theorem refTop0_at (h : FVec Ideal S16x4096x768 .f32) (w : FVec Ideal S32x8 .f32) (s : FVec Ideal S1x8 .f32) (b : Fin 16) (n : Fin 32) (g : Fin 2) (q : Fin 4) (r : Fin 128) :
    val_main_v96 (F := Ideal) h w s (ix5 b n g q r)
      = max (val_main_v93 (F := Ideal) h w (ix5 b n g q r)) (s (ix2 0 ⟨4 * g.val + q.val, by omega⟩)) := by
  rw [val_main_v96_apply, refSink_at]
  generalize val_main_v93 (F := Ideal) h w (ix5 b n g q r) = L
  rfl

/-- A row's maximum and its sink. -/
theorem refTop_at (h : FVec Ideal S16x4096x768 .f32) (w : FVec Ideal S32x8 .f32) (s : FVec Ideal S1x8 .f32) (b : Fin 16) (n : Fin 32) (g : Fin 2) (q : Fin 4) (r : Fin 128) :
    val_main_v96 (F := Ideal) h w s (ix5 b n g q r)
      = max (Finset.univ.fold max (Ideal.ofBits .f32 0xFF800000#32) fun j : Fin 384 => val_main_v92 (F := Ideal) h w (ix6 b n g q r j))
          (s (ix2 0 ⟨4 * g.val + q.val, by omega⟩)) := by
  rw [refTop0_at, refMax_at]

/-- The reference's sum of a row's exponentials. -/
theorem refSum_at (h : FVec Ideal S16x4096x768 .f32) (w : FVec Ideal S32x8 .f32) (s : FVec Ideal S1x8 .f32) (b : Fin 16) (n : Fin 32) (g : Fin 2) (q : Fin 4) (r : Fin 128) :
    val_main_v101 (F := Ideal) h w s (ix5 b n g q r) = ∑ j : Fin 384, val_main_v100 (F := Ideal) h w s (ix6 b n g q r j) := by
  rw [val_main_v101_apply]
  generalize val_main_v100 (F := Ideal) h w s = L
  rw [show val_main_cst_21 (F := Ideal) (Shape.Idx.first h_S_) = (0 : EReal) from Ideal.ofBits_zero_f32, zero_add]
  refine Finset.sum_congr rfl fun k _ => ?_
  exact congrArg L (funext fun a => Fin.ext (by match a with | ⟨0, _⟩ => rfl | ⟨1, _⟩ => rfl | ⟨2, _⟩ => rfl | ⟨3, _⟩ => rfl | ⟨4, _⟩ => rfl | ⟨5, _⟩ => rfl))

/-- The reference's exponential at an index. -/
theorem refExp_at (h : FVec Ideal S16x4096x768 .f32) (w : FVec Ideal S32x8 .f32) (s : FVec Ideal S1x8 .f32) (b : Fin 16) (n : Fin 32) (g : Fin 2) (q : Fin 4) (r : Fin 128) (j : Fin 384) :
    val_main_v100 (F := Ideal) h w s (ix6 b n g q r j) = Ideal.exp (val_main_v92 (F := Ideal) h w (ix6 b n g q r j) - val_main_v96 (F := Ideal) h w s (ix5 b n g q r)) := by
  generalize hL : val_main_v92 (F := Ideal) h w = L
  generalize hM : val_main_v96 (F := Ideal) h w s = M
  pointwise [val_main_v100, val_main_v99, val_main_v98, val_main_v97, hL, hM]

/-- The reference's quotient at an index. -/
theorem prob0_at (h : FVec Ideal S16x4096x768 .f32) (w : FVec Ideal S32x8 .f32) (s : FVec Ideal S1x8 .f32) (b : Fin 16) (n : Fin 32) (g : Fin 2) (q : Fin 4) (r : Fin 128) (j : Fin 384) :
    val_main_v109 (F := Ideal) h w s (ix6 b n g q r j)
      = Ideal.div (val_main_v100 (F := Ideal) h w s (ix6 b n g q r j))
          (val_main_v101 (F := Ideal) h w s (ix5 b n g q r)
            + Ideal.exp (s (ix2 0 ⟨4 * g.val + q.val, by omega⟩) - val_main_v96 (F := Ideal) h w s (ix5 b n g q r))) := by
  generalize hL : val_main_v100 (F := Ideal) h w s = L
  generalize hS : val_main_v101 (F := Ideal) h w s = S
  generalize hM : val_main_v96 (F := Ideal) h w s = M
  pointwise [val_main_v109, val_main_v108, val_main_v107, val_main_v106, val_main_v105, val_main_v104, val_main_v103, val_main_v102, val_main_v62, val_main_v61, hL, hS, hM]
  exact congrArg (fun k => Ideal.div (L (ix6 b n g q r j)) (S (ix5 b n g q r) + Ideal.exp (s (ix2 0 k) - M (ix5 b n g q r)))) (Fin.ext (by simp only; omega))

/-- A probability. -/
theorem prob_at (h : FVec Ideal S16x4096x768 .f32) (w : FVec Ideal S32x8 .f32) (s : FVec Ideal S1x8 .f32) (b : Fin 16) (n : Fin 32) (g : Fin 2) (q : Fin 4) (r : Fin 128) (j : Fin 384) :
    val_main_v109 (F := Ideal) h w s (ix6 b n g q r j)
      = Ideal.div (Ideal.exp (val_main_v92 (F := Ideal) h w (ix6 b n g q r j) - val_main_v96 (F := Ideal) h w s (ix5 b n g q r)))
          ((∑ k : Fin 384, Ideal.exp (val_main_v92 (F := Ideal) h w (ix6 b n g q r k) - val_main_v96 (F := Ideal) h w s (ix5 b n g q r)))
            + Ideal.exp (s (ix2 0 ⟨4 * g.val + q.val, by omega⟩) - val_main_v96 (F := Ideal) h w s (ix5 b n g q r))) := by
  rw [prob0_at, refSum_at]
  simp only [refExp_at]

/-- The output. -/
theorem refOut_at (h : FVec Ideal S16x4096x768 .f32) (w : FVec Ideal S32x8 .f32) (s : FVec Ideal S1x8 .f32) (b : Fin 16) (n : Fin 32) (g : Fin 2) (q : Fin 4) (r : Fin 128) (d : Fin 64) :
    val_main_v113 (F := Ideal) h w s (ix3 b ⟨128 * n.val + r.val, by omega⟩ ⟨128 * q.val + (64 * g.val + d.val), by omega⟩)
      = ∑ j : Fin 384, val_main_v15 (F := Ideal) h (ix5 b n j g d) * val_main_v109 (F := Ideal) h w s (ix6 b n g q r j) := by
  generalize hV : val_main_v15 (F := Ideal) h = V
  generalize hP : val_main_v109 (F := Ideal) h w s = P
  pointwise [val_main_v113, val_main_v112, val_main_v111, val_main_v110, hV, hP]

end Cert.KernelIdeal.Att

end
-- ==== Proof.Att.Equal.lean ====
/- A block of the attention kernel against plain attention, over the extended reals, of finite arguments. -/
module

public import proofs.«01_k».proof.Proof.Att.BiasAt
public import proofs.«01_k».proof.Proof.Att.RefAt
public import proofs.«01_k».proof.Proof.Att.Ideal

@[expose] public section

set_option maxRecDepth 16384

noncomputable section

namespace Cert.KernelIdeal.Att

open Cert.KernelIdeal Cert.KernelIdeal.Gen Idealize.ShloMosaic Idealize.ShloMosaic.TcCoe Idealize.SL.Sem
open Cert.ReferenceIdeal.Read

/-- The two programs' tables of biases are one. -/
theorem refTable_eq (w : FVec Ideal S32x8 .f32) (h : Fin 8) (r : Fin 128) (j : Fin 384) : val_main_v59 (F := Ideal) w (ix3 h r j) = table w (ix3 h r j) := rfl

/-- The two programs' windows are one. -/
theorem refWindow_eq (r : Fin 128) (j : Fin 384) : val_main_v27 (F := Ideal) (ix2 r j) = inWindow (ix2 r j) := rfl

/-- A bias is an entry of the table of biases. -/
theorem table_entry (w : FVec Ideal S32x8 .f32) (x : S8x128x384.Idx) : ∃ i, table w x = w i := ⟨_, rfl⟩

/-- Whether block `n`'s key `j` lies outside the sequence. -/
def outside (n : Fin 32) (j : Fin 384) : Prop := (n.val = 0 ∧ j.val < 128) ∨ (n.val = 31 ∧ 256 ≤ j.val)

/-- The test is decidable. -/
instance (n : Fin 32) (j : Fin 384) : Decidable (outside n j) := by unfold outside; infer_instance

/-- The reference's test of a key's place in the sequence. -/
theorem refInside_eq (n : Fin 32) (j : Fin 384) : val_main_v78 (F := Ideal) (ix2 n j) = if outside n j then 0#1 else 1#1 := by
  rw [inside_at]
  rfl

/-- The bias's number for block `n`. -/
def biasNo (n : Fin 32) : Fin 3 := if n.val = 0 then 1 else if n.val = 31 then 2 else 0

/-- A bit is zero or one. -/
theorem bit_cases (x : BitVec 1) : x = 0#1 ∨ x = 1#1 := by revert x; decide

/-- The bias of a key outside the sequence or the window is minus infinity. -/
theorem bias_masked (w : FVec Ideal S32x8 .f32) (n : Fin 32) (h : Fin 8) (r : Fin 128) (j : Fin 384) (hm : outside n j ∨ inWindow (ix2 r j) = 0#1) :
    biases w (ix4 (biasNo n) h r j) = (⊥ : EReal) := by
  have h0 : inWindow (ix2 r j) = 0#1 → bias0 w (ix3 h r j) = (⊥ : EReal) := fun e => by rw [bias0_at, e]; rfl
  unfold biasNo
  unfold outside at hm
  split_ifs with a b
  · rw [biases_at1, bias1_at]
    split_ifs with c
    · rfl
    · rcases hm with hm | hm
      · omega
      · exact h0 hm
  · rw [biases_at2, bias2_at]
    split_ifs with c
    · rfl
    · rcases hm with hm | hm
      · omega
      · exact h0 hm
  · rw [biases_at0]
    rcases hm with hm | hm
    · omega
    · exact h0 hm

/-- The bias of any other key is the table's, scaled. -/
theorem bias_kept (w : FVec Ideal S32x8 .f32) (n : Fin 32) (h : Fin 8) (r : Fin 128) (j : Fin 384) (hm : ¬outside n j) (hw : inWindow (ix2 r j) = 1#1) :
    biases w (ix4 (biasNo n) h r j) = table w (ix3 h r j) * (lg : EReal) := by
  have h0 : bias0 w (ix3 h r j) = table w (ix3 h r j) * (lg : EReal) := by rw [bias0_at, hw]; rfl
  unfold biasNo
  unfold outside at hm
  split_ifs with a b
  · rw [biases_at1, bias1_at, if_neg (by omega), h0]
  · rw [biases_at2, bias2_at, if_neg (by omega), h0]
  · rw [biases_at0, h0]

/-- A band at an index: one of its three blocks. -/
theorem band_at (a b c : Vec Ideal S1x128x128 .bf16) (j : Fin 384) (l : Fin 128) :
    band a b c (ix2 j l) = if h : j.val < 128 then a (ix3 0 ⟨j.val, h⟩ l) else if h' : j.val - 128 < 128 then b (ix3 0 ⟨j.val - 128, h'⟩ l)
      else c (ix3 0 ⟨j.val - 128 - 128, by omega⟩ l) := by
  pointwise [band]

/-- A row of a band is a row of the sequence, row `128 n + j - 128` unless that lies outside. -/
theorem band_row (h : FVec Ideal S16x4096x768 .f32) (bt : Fin 16) (n : Fin 32) (col : ℕ) (hc : col + 128 ≤ 768) (a b c : Vec Ideal S1x128x128 .bf16)
    (ha : ∀ (x l : Fin 128), a (ix3 0 x l) = h (ix3 bt ⟨128 * (n.val - 1) + x.val, by omega⟩ ⟨col + l.val, by omega⟩))
    (hb : ∀ (x l : Fin 128), b (ix3 0 x l) = h (ix3 bt ⟨128 * n.val + x.val, by omega⟩ ⟨col + l.val, by omega⟩))
    (hcc : ∀ (x l : Fin 128), c (ix3 0 x l) = h (ix3 bt ⟨min 3968 (128 * (n.val + 1)) + x.val, by omega⟩ ⟨col + l.val, by omega⟩))
    (j : Fin 384) : ∃ pos : Fin 4096, (∀ l : Fin 128, band a b c (ix2 j l) = h (ix3 bt pos ⟨col + l.val, by omega⟩))
      ∧ (¬outside n j → pos.val = 128 * n.val + j.val - 128) := by
  unfold outside
  by_cases h1 : j.val < 128
  · refine ⟨⟨128 * (n.val - 1) + j.val, by omega⟩, fun l => ?_, fun ho => ?_⟩
    · rw [band_at, dif_pos h1, ha]
    · simp only; omega
  · by_cases h2 : j.val - 128 < 128
    · refine ⟨⟨128 * n.val + (j.val - 128), by omega⟩, fun l => ?_, fun ho => ?_⟩
      · rw [band_at, dif_neg h1, dif_pos h2, hb]
      · simp only; omega
    · refine ⟨⟨min 3968 (128 * (n.val + 1)) + (j.val - 128 - 128), by omega⟩, fun l => ?_, fun ho => ?_⟩
      · rw [band_at, dif_neg h1, dif_neg h2, hcc]
      · simp only; omega

/-- The block's entry is plain attention's. -/
theorem block_eq (h : FVec Ideal S16x4096x768 .f32) (w : FVec Ideal S32x8 .f32) (s : FVec Ideal S1x8 .f32)
    (hh : ∀ i, ∃ x : ℝ, h i = (x : EReal)) (hw : ∀ i, ∃ x : ℝ, w i = (x : EReal)) (hs : ∀ i, ∃ x : ℝ, s i = (x : EReal))
    (bt : Fin 16) (n : Fin 32) (q : Vec Ideal S1x128x512 .bf16) (k0 k1 k2 v0 v1 v2 : Vec Ideal S1x128x128 .bf16) (bias : Vec Ideal S1x512x768 .f32)
    (sk : Fin 8 → Elt Ideal .f32)
    (hq : ∀ (x : Fin 128) (l : Fin 512), q (ix3 0 x l) = qkvOf h (ix3 bt ⟨128 * n.val + x.val, by omega⟩ ⟨l.val, by omega⟩))
    (hk0 : ∀ (x l : Fin 128), k0 (ix3 0 x l) = h (ix3 bt ⟨128 * (n.val - 1) + x.val, by omega⟩ ⟨512 + l.val, by omega⟩))
    (hk1 : ∀ (x l : Fin 128), k1 (ix3 0 x l) = h (ix3 bt ⟨128 * n.val + x.val, by omega⟩ ⟨512 + l.val, by omega⟩))
    (hk2 : ∀ (x l : Fin 128), k2 (ix3 0 x l) = h (ix3 bt ⟨min 3968 (128 * (n.val + 1)) + x.val, by omega⟩ ⟨512 + l.val, by omega⟩))
    (hv0 : ∀ (x l : Fin 128), v0 (ix3 0 x l) = h (ix3 bt ⟨128 * (n.val - 1) + x.val, by omega⟩ ⟨640 + l.val, by omega⟩))
    (hv1 : ∀ (x l : Fin 128), v1 (ix3 0 x l) = h (ix3 bt ⟨128 * n.val + x.val, by omega⟩ ⟨640 + l.val, by omega⟩))
    (hv2 : ∀ (x l : Fin 128), v2 (ix3 0 x l) = h (ix3 bt ⟨min 3968 (128 * (n.val + 1)) + x.val, by omega⟩ ⟨640 + l.val, by omega⟩))
    (hbias : ∀ (x : Fin 512) (y : Fin 768), bias (ix3 0 x y) = biasOf w (ix3 (biasNo n) x y))
    (hsk : ∀ j : Fin 8, sk j = sinksOf s (ix1 j))
    (p : Fin 4) (side : Fin 2) (r : Fin 128) (d : Fin 64) :
    block q k0 k1 k2 v0 v1 v2 bias sk (ix3 0 r ⟨128 * p.val + (64 * side.val + d.val), by omega⟩)
      = val_main_v113 (F := Ideal) h w s (ix3 bt ⟨128 * n.val + r.val, by omega⟩ ⟨128 * p.val + (64 * side.val + d.val), by omega⟩) := by
  rw [block_at, refOut_at]
  obtain ⟨σ, hσ⟩ := hs (ix2 0 (headNo p side))
  have hsn : sk (sinkNo p side) = (lg : EReal) * σ := by
    rw [hsk]
    show sinksOf s (ix1 ⟨2 * p.val + side.val, _⟩) = _
    rw [sinksOf_at, hσ, mul_comm]
  rw [hsn]
  choose H hH using hh
  have key := band_row h bt n 512 (by omega) k0 k1 k2 hk0 hk1 hk2
  have val := band_row h bt n 640 (by omega) v0 v1 v2 hv0 hv1 hv2
  have hYb : ∀ j, outside n j ∨ inWindow (ix2 r j) = 0#1 → val_main_v92 (F := Ideal) h w (ix6 bt n side p r j) = (⊥ : EReal) := by
    intro j hm
    rw [masked_at, refWindow_eq, refInside_eq, ofBits_bot]
    rcases hm with hm | hm
    · rw [if_pos hm]
      rcases bit_cases (inWindow (ix2 r j)) with e | e <;> rw [e] <;> rfl
    · rw [hm]
      split_ifs <;> rfl
  have hYr : ∀ j, ¬outside n j → inWindow (ix2 r j) = 1#1 → ∃ (pos : Fin 4096) (T : ℝ), pos.val = 128 * n.val + j.val - 128 ∧ table w (ix3 (headNo p side) r j) = (T : EReal)
      ∧ val_main_v92 (F := Ideal) h w (ix6 bt n side p r j)
        = (((∑ d : Fin 64, H (ix3 bt pos ⟨512 + (64 * side.val + d.val), by omega⟩)
            * H (ix3 bt ⟨128 * n.val + r.val, by omega⟩ ⟨64 * (4 * side.val + p.val) + d.val, by omega⟩)) * (1/8) + T : ℝ) : EReal) := by
    intro j ho hi
    obtain ⟨i, hT⟩ := table_entry w (ix3 (headNo p side) r j)
    obtain ⟨T, hwT⟩ := hw i
    have ho' := ho
    unfold outside at ho'
    refine ⟨⟨128 * n.val + j.val - 128, by omega⟩, T, rfl, hT.trans hwT, ?_⟩
    rw [masked_at, refWindow_eq, refInside_eq, if_neg ho, hi, refTable_eq, ofBits_eighth]
    show (_ + table w (ix3 (headNo p side) r j) : EReal) = _
    rw [hT, hwT]
    simp only [bandK, refQ, padK]
    rw [EReal.coe_add, EReal.coe_mul, coe_sum]
    refine congrArg (fun x : EReal => x * ((1/8 : ℝ) : EReal) + (T : EReal)) (Finset.sum_congr rfl fun d _ => ?_)
    rw [dif_pos (by omega), EReal.coe_mul, ← hH, ← hH]
  have hX : ∀ j, rowLogits q k0 k1 k2 bias p side r j = (lg : EReal) * val_main_v92 (F := Ideal) h w (ix6 bt n side p r j) := by
    intro j
    unfold rowLogits
    rw [hbias, biasOf_at]
    by_cases hm : outside n j ∨ inWindow (ix2 r j) = 0#1
    · rw [bias_masked w n _ r j hm, hYb j hm, scale_bot, EReal.add_bot]
    · have ho : ¬outside n j := fun e => hm (.inl e)
      have hi : inWindow (ix2 r j) = 1#1 := (bit_cases _).resolve_left fun e => hm (.inr e)
      obtain ⟨pos', T, hpos', hT, hY⟩ := hYr j ho hi
      rw [hY, bias_kept w n _ r j ho hi, hT]
      obtain ⟨pos, hb, hp⟩ := key j
      have hp' : pos = pos' := Fin.ext ((hp ho).trans hpos'.symm)
      simp only [hb, hq, qkvOf_q, hH, hp']
      simp only [← EReal.coe_mul, ← coe_sum, ← EReal.coe_add]
      congr 1
      rw [mul_add, mul_comm T lg]
      congr 1
      rw [Finset.sum_mul, Finset.mul_sum]
      refine Finset.sum_congr rfl fun d _ => ?_
      unfold headNo
      ring
  have hY : ∀ j, val_main_v92 (F := Ideal) h w (ix6 bt n side p r j) = (⊥ : EReal) ∨ ∃ x : ℝ, val_main_v92 (F := Ideal) h w (ix6 bt n side p r j) = (x : EReal) := by
    intro j
    by_cases hm : outside n j ∨ inWindow (ix2 r j) = 0#1
    · exact .inl (hYb j hm)
    · obtain ⟨_, T, _, _, e⟩ := hYr j (fun e => hm (.inl e)) ((bit_cases _).resolve_left fun e => hm (.inr e))
      exact .inr ⟨_, e⟩
  have hU : ∀ j, ∃ x : ℝ, band v0 v1 v2 (ix2 j ⟨64 * side.val + d.val, by omega⟩) = (x : EReal) := by
    intro j
    obtain ⟨pos, hb, _⟩ := val j
    exact ⟨_, (hb _).trans (hH _)⟩
  have hV : ∀ j, ∃ x : ℝ, val_main_v15 (F := Ideal) h (ix5 bt n j side d) = (x : EReal) := by
    intro j
    rw [bandV, padV]
    split_ifs
    · exact ⟨_, hH _⟩
    · exact ⟨0, rfl⟩
  have hUV : ∀ j, val_main_v92 (F := Ideal) h w (ix6 bt n side p r j) = (⊥ : EReal)
      ∨ band v0 v1 v2 (ix2 j ⟨64 * side.val + d.val, by omega⟩) = val_main_v15 (F := Ideal) h (ix5 bt n j side d) := by
    intro j
    by_cases ho : outside n j
    · exact .inl (hYb j (.inl ho))
    · refine .inr ?_
      obtain ⟨pos, hb, hp⟩ := val j
      have ho' := ho
      unfold outside at ho'
      have hp' : pos = ⟨128 * n.val + j.val - 128, by omega⟩ := Fin.ext (hp ho)
      rw [hb, bandV, padV, dif_pos (by simp only; omega), hp']
  refine (soft_eq _ (fun j => val_main_v92 (F := Ideal) h w (ix6 bt n side p r j)) _ (fun j => val_main_v15 (F := Ideal) h (ix5 bt n j side d)) σ hX hY hU hV hUV).trans ?_
  unfold plainAt
  refine Finset.sum_congr rfl fun j _ => ?_
  rw [mul_comm, prob_at, refTop_at]
  unfold topE
  rw [← hσ]
  rfl

end Cert.KernelIdeal.Att

end
-- ==== Proof.Att.Final.lean ====
/- The attention kernel's result array is the plain attention's, over the extended reals, of finite arguments. -/
module

public import proofs.«01_k».proof.Proof.Gen.KernelIdeal.Value
public import proofs.«01_k».proof.Proof.Att.Windows
public import proofs.«01_k».proof.Proof.Att.Equal

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)
open Cert.ReferenceIdeal.Read (val_main_v113)

variable (m : (ℓ : Loc nD τ sig) → Buf (Elt Ideal) ℓ)

/-- A block of rows at an index. -/
theorem rows_at (X : S1x4096x128.Idx → Elt Ideal .bf16) (i : Fin 2) (qi : Fin 16) (w : BitVec 32) (h) (k : ℕ) (e : start i.val qi.val w = k) (x l : Fin 128) (hk : k + x.val < 4096) :
    rows X i qi w h (ix3 0 x l) = X (ix3 0 ⟨k + x.val, hk⟩ l) := by
  unfold rows
  show X ((Rect.unit (s := S1x4096x128) ![0, start i.val qi.val w, 0] ![1, 128, 128] (k_inb i qi w h)).emb (ix3 0 x l)) = _
  refine congrArg X (funext fun a => Fin.ext ?_)
  rw [Rect.emb_apply]
  fin_cases a
  · rfl
  · show start i.val qi.val w + 1 * x.val = k + x.val; omega
  · show 0 + 1 * l.val = l.val; omega

/-- A grid point's block number in its sequence. -/
def blockNo (t : Fin cfg0.N) (qi : Fin 16) : Fin 32 := ⟨16 * (half t).val + qi.val, by omega⟩

/-- What a grid point leaves in its window is plain attention's entry. -/
theorem piece_eq (c : Dev nD) (t : Fin cfg0.N) (qi : Fin 16)
    (hh : ∀ i, ∃ x : ℝ, m ((c : Thread nD τ).loc main_arg0) i = (x : EReal)) (hw : ∀ i, ∃ x : ℝ, m ((c : Thread nD τ).loc main_arg1) i = (x : EReal))
    (hs : ∀ i, ∃ x : ℝ, m ((c : Thread nD τ).loc main_arg2) i = (x : EReal))
    (p : Fin 4) (side : Fin 2) (r : Fin 128) (d : Fin 64) :
    piece m c t qi (ix3 0 r ⟨128 * p.val + (64 * side.val + d.val), by omega⟩)
      = val_main_v113 (F := Ideal) (m ((c : Thread nD τ).loc main_arg0)) (m ((c : Thread nD τ).loc main_arg1)) (m ((c : Thread nD τ).loc main_arg2))
        (ix3 (batch t) ⟨128 * (blockNo t qi).val + r.val, by omega⟩ ⟨128 * p.val + (64 * side.val + d.val), by omega⟩) := by
  obtain ⟨s0, s1, s2⟩ := start_eq (half t) qi
  have kv : ∀ (x : Fin 4096) (l : Fin 256), V m c main_v22 (ix3 (batch t) x ⟨512 + l.val, by omega⟩) = m ((c : Thread nD τ).loc main_arg0) (ix3 (batch t) x ⟨512 + l.val, by omega⟩) :=
    fun x l => by rw [V_qkv]; exact qkvOf_kv _ _ _ _
  unfold piece
  refine block_eq _ _ _ hh hw hs (batch t) (blockNo t qi) _ _ _ _ _ _ _ _ _ ?_ ?_ ?_ ?_ ?_ ?_ ?_ ?_ ?_ p side r d
  · intro x l
    show X0_0 m c t ((Rect.unit (s := S1x2048x512) ![0, 128 * qi.val, 0] ![1, 128, 512] (q_inb qi)).emb (ix3 0 x l)) = _
    have e : (Rect.unit (s := S1x2048x512) ![0, 128 * qi.val, 0] ![1, 128, 512] (q_inb qi)).emb (ix3 0 x l) = ix3 (0 : Fin 1) (⟨128 * qi.val + x.val, by omega⟩ : Fin 2048) l := by
      refine funext fun a => Fin.ext ?_
      rw [Rect.emb_apply]
      fin_cases a
      · rfl
      · show 128 * qi.val + 1 * x.val = 128 * qi.val + x.val; omega
      · show 0 + 1 * l.val = l.val; omega
    rw [e, window0_at, V_qkv]
    exact congrArg (fun k => qkvOf _ (ix3 (batch t) k _)) (Fin.ext (by show 2048 * (half t).val + (128 * qi.val + x.val) = 128 * (16 * (half t).val + qi.val) + x.val; omega))
  · intro x l
    rw [rows_at _ _ _ _ _ _ s0 _ _ (by omega), window1_at]
    exact kv _ ⟨l.val, by omega⟩
  · intro x l
    rw [rows_at _ _ _ _ _ _ s1 _ _ (by omega), window1_at]
    exact kv _ ⟨l.val, by omega⟩
  · intro x l
    rw [rows_at _ _ _ _ _ _ s2 _ _ (by omega), window1_at]
    exact kv _ ⟨l.val, by omega⟩
  · intro x l
    have e : (⟨640 + l.val, by omega⟩ : Fin 768) = ⟨512 + (128 + l.val), by omega⟩ := Fin.ext (by simp only; omega)
    rw [rows_at _ _ _ _ _ _ s0 _ _ (by omega), window2_at, e]
    exact kv _ ⟨128 + l.val, by omega⟩
  · intro x l
    have e : (⟨640 + l.val, by omega⟩ : Fin 768) = ⟨512 + (128 + l.val), by omega⟩ := Fin.ext (by simp only; omega)
    rw [rows_at _ _ _ _ _ _ s1 _ _ (by omega), window2_at, e]
    exact kv _ ⟨128 + l.val, by omega⟩
  · intro x l
    have e : (⟨640 + l.val, by omega⟩ : Fin 768) = ⟨512 + (128 + l.val), by omega⟩ := Fin.ext (by simp only; omega)
    rw [rows_at _ _ _ _ _ _ s2 _ _ (by omega), window2_at, e]
    exact kv _ ⟨128 + l.val, by omega⟩
  · intro x y
    show iblk m c 3 t ((Rect.unit (s := S3x512x768) ![variant (half t).val qi.val, 0, 0] ![1, 512, 768] (bias_inb (half t) qi)).emb (ix3 0 x y)) = _
    have e : (Rect.unit (s := S3x512x768) ![variant (half t).val qi.val, 0, 0] ![1, 512, 768] (bias_inb (half t) qi)).emb (ix3 0 x y) = ix3 (biasNo (blockNo t qi)) x y := by
      refine funext fun a => Fin.ext ?_
      rw [Rect.emb_apply]
      fin_cases a
      · show variant (half t).val qi.val + 1 * 0 = (biasNo (blockNo t qi)).val
        rw [variant_eq]
        unfold biasNo blockNo
        simp only
        split_ifs <;> rfl
      · show 0 + 1 * x.val = x.val; omega
      · show 0 + 1 * y.val = y.val; omega
    rw [e, window3_at, V_bias]
  · intro j
    show iblk m c 4 t ((Rect.unit (s := S8) ![j.val] ![1] (sink_inb j)).emb (Shape.Idx.first (s := S1) (by decide))) = _
    have e : (Rect.unit (s := S8) ![j.val] ![1] (sink_inb j)).emb (Shape.Idx.first (s := S1) (by decide)) = ix1 j := by
      refine funext fun a => Fin.ext ?_
      rw [Rect.emb_apply]
      fin_cases a
      show j.val + 1 * 0 = j.val; omega
    rw [e, window4_at, V_sinks]

/-- An output window's entry is plain attention's at the entry's place in the array. -/
theorem window_eq (c : Dev nD) (t : Fin cfg0.N)
    (hh : ∀ i, ∃ x : ℝ, m ((c : Thread nD τ).loc main_arg0) i = (x : EReal)) (hw : ∀ i, ∃ x : ℝ, m ((c : Thread nD τ).loc main_arg1) i = (x : EReal))
    (hs : ∀ i, ∃ x : ℝ, m ((c : Thread nD τ).loc main_arg2) i = (x : EReal)) (a : Fin 2048) (b : Fin 512) :
    window m c t (ix3 0 a b)
      = val_main_v113 (F := Ideal) (m ((c : Thread nD τ).loc main_arg0)) (m ((c : Thread nD τ).loc main_arg1)) (m ((c : Thread nD τ).loc main_arg2))
        (ix3 (batch t) ⟨2048 * (half t).val + a.val, by omega⟩ b) := by
  have h := piece_eq m c t ⟨a.val / 128, by omega⟩ hh hw hs ⟨b.val / 128, by omega⟩ ⟨b.val % 128 / 64, by omega⟩ ⟨a.val % 128, by omega⟩ ⟨b.val % 64, by omega⟩
  have eb : (⟨128 * (b.val / 128) + (64 * (b.val % 128 / 64) + b.val % 64), by omega⟩ : Fin 512) = b := Fin.ext (by simp only; omega)
  have ea : (⟨128 * (blockNo t ⟨a.val / 128, by omega⟩).val + a.val % 128, by omega⟩ : Fin 4096) = ⟨2048 * (half t).val + a.val, by omega⟩ :=
    Fin.ext (by show 128 * (16 * (half t).val + a.val / 128) + a.val % 128 = 2048 * (half t).val + a.val; omega)
  simp only [eb] at h
  rw [ea] at h
  refine Eq.trans ?_ h
  unfold window
  refine congrArg (piece m c t _) (funext fun i => ?_)
  fin_cases i <;> rfl

/-- The kernel's result array. -/
theorem result_eq (c : Dev nD)
    (hh : ∀ i, ∃ x : ℝ, m ((c : Thread nD τ).loc main_arg0) i = (x : EReal)) (hw : ∀ i, ∃ x : ℝ, m ((c : Thread nD τ).loc main_arg1) i = (x : EReal))
    (hs : ∀ i, ∃ x : ℝ, m ((c : Thread nD τ).loc main_arg2) i = (x : EReal)) :
    (dats m 0 c).arrAt 5 cfg0.N
      = val_main_v113 (F := Ideal) (m ((c : Thread nD τ).loc main_arg0)) (m ((c : Thread nD τ).loc main_arg1)) (m ((c : Thread nD τ).loc main_arg2)) := by
  refine (dats m 0 c).arrAt_eq_of_covers 5 _ (by decide +kernel : (cfg0.win 5).Covers) fun t hf y => ?_
  blk_simp
  rw [after0_5, outs_eq]
  have ey : y = ix3 (0 : Fin 1) (y 1) (y 2) := by
    funext a
    fin_cases a
    · exact Subsingleton.elim (α := Fin 1) _ _
    · rfl
    · rfl
  rw [ey]
  refine (window_eq m c t hh hw hs (y 1) (y 2)).trans ?_
  generalize val_main_v113 (F := Ideal) (m ((c : Thread nD τ).loc main_arg0)) (m ((c : Thread nD τ).loc main_arg1)) (m ((c : Thread nD τ).loc main_arg2)) = G
  blk_ext [index5 t]
  · show (grid0.coords t 0).val = (grid0.coords t 0).val + 0; omega
  · show 2048 * (grid0.coords t 1).val + (y 1).val = (grid0.coords t 1).val * 2048 + (y 1).val; omega

end Cert.KernelIdeal.Att

end
-- ==== Proof.Ffn.Pieces.lean ====
/- What the feed-forward kernel leaves in its output window: two halves of rows, each the one function of its inputs. -/
module

public import proofs.«01_k».proof.Proof.Gen.Kernel2Ideal.Value
public import Idealize.ShloMosaic.Lib.Pipeline.Value
public import Idealize.ShloMosaic.Lib.Pipeline.ReadBack
public import Idealize.ShloMosaic.Lib.Pointwise

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- A chunk's columns of the gate lie in the weights. -/
theorem gate_inb (k : Fin 11) : ∀ a, (![0, 256 * k.val] : Fin 2 → ℕ) a + S1024x256.size a ≤ S1024x5632.size a := by
  intro a; fin_cases a
  · exact (by decide : 0 + 1024 ≤ 1024)
  · show 256 * k.val + 256 ≤ 5632; omega

/-- A chunk's columns of the values lie in the weights. -/
theorem val_inb (k : Fin 11) : ∀ a, (![0, 2816 + 256 * k.val] : Fin 2 → ℕ) a + S1024x256.size a ≤ S1024x5632.size a := by
  intro a; fin_cases a
  · exact (by decide : 0 + 1024 ≤ 1024)
  · show 2816 + 256 * k.val + 256 ≤ 5632; omega

/-- A chunk's columns lie in the convolution. -/
theorem conv_inb (k : Fin 11) : ∀ a, (![0, 512 * k.val] : Fin 2 → ℕ) a + S3x512.size a ≤ S3x5632.size a := by
  intro a; fin_cases a
  · exact (by decide : 0 + 3 ≤ 3)
  · show 512 * k.val + 512 ≤ 5632; omega

/-- A chunk's columns lie in the bias. -/
theorem bias_inb (k : Fin 11) : ∀ a, (![0, 512 * k.val] : Fin 2 → ℕ) a + S1x512.size a ≤ S1x5632.size a := by
  intro a; fin_cases a
  · exact (by decide : 0 + 1 ≤ 1)
  · show 512 * k.val + 512 ≤ 5632; omega

/-- A half's rows lie in the activations. -/
theorem act_inb (r : Fin 2) : ∀ a, (![256 * r.val, 0] : Fin 2 → ℕ) a + S256x2816.size a ≤ S512x2816.size a := by
  intro a; fin_cases a
  · show 256 * r.val + 256 ≤ 512; omega
  · exact (by decide : 0 + 2816 ≤ 2816)

/-- A half's rows lie in the window. -/
theorem row_inb (r : Fin 2) : ∀ a, (![256 * r.val, 0] : Fin 2 → ℕ) a + S256x1024.size a ≤ S512x1024.size a := by
  intro a; fin_cases a
  · show 256 * r.val + 256 ≤ 512; omega
  · exact (by decide : 0 + 1024 ≤ 1024)

/-- The rows with the rows before and after them. -/
def stack (c : Dev nD) (t : Fin cfg0.N) : FVec F S528x1024 .bf16 :=
  k0_pay3 (k0_pay2 (grid0.coords t)
    (View.ld (S := S8x1024) (iblk m c 0 t) (Rect.unit (s := S8x1024) ![0, 0] ![8, 1024] inb_S8x1024_S8x1024_0_0))
    (View.ld (S := S512x1024) (iblk m c 1 t) (Rect.unit (s := S512x1024) ![0, 0] ![512, 1024] inb_S512x1024_S512x1024_0_0))
    (View.ld (S := S8x1024) (iblk m c 2 t) (Rect.unit (s := S8x1024) ![0, 0] ![8, 1024] inb_S8x1024_S8x1024_0_0)))

/-- A chunk of the rows' products with the weights: the gate's columns, then the values'. -/
def hid (c : Dev nD) (t : Fin cfg0.N) (k : Fin 11) : FVec F S1x528x512 .f32 :=
  k0_pay4 (View.ld (S := S1024x5632) (iblk m c 3 t) (Rect.unit (s := S1024x5632) ![0, 256 * k.val] ![1024, 256] (gate_inb k)))
    (View.ld (S := S1024x5632) (iblk m c 3 t) (Rect.unit (s := S1024x5632) ![0, 2816 + 256 * k.val] ![1024, 256] (val_inb k)))
    (stack m c t)

/-- A chunk of activations. -/
def actOf (c : Dev nD) (t : Fin cfg0.N) (k : Fin 11) : FVec F S512x256 .bf16 :=
  k0_pay16 (View.ld (S := S3x5632) (iblk m c 4 t) (Rect.unit (s := S3x5632) ![0, 512 * k.val] ![3, 512] (conv_inb k)))
    (hid m c t k)
    (View.ld (S := S1x5632) (iblk m c 5 t) (Rect.unit (s := S1x5632) ![0, 512 * k.val] ![1, 512] (bias_inb k)))

/-- Chunks of columns set side by side. -/
def beside (P : Fin 11 → FVec F S512x256 .bf16) : S512x2816.Idx → Elt F .bf16 := fun y =>
  P ⟨(y 1).val / 256, by have : (y 1).val < 2816 := (y 1).isLt; omega⟩
    (fun a => match a with | ⟨0, _⟩ => y 0 | ⟨1, _⟩ => (⟨(y 1).val % 256, by omega⟩ : Fin 256))

/-- The column chunk's rectangle lies in the activations. -/
theorem chunk_inb (k : Fin 11) : ∀ a, (![0, 256 * k.val] : Fin 2 → ℕ) a + S512x256.size a ≤ S512x2816.size a := by
  intro a; fin_cases a
  · exact (by decide : 0 + 512 ≤ 512)
  · show 256 * k.val + 256 ≤ 2816; omega

/-- The chunks side by side, under a chunk's rectangle. -/
theorem beside_emb (P : Fin 11 → FVec F S512x256 .bf16) (k : Fin 11) (h) (x : S512x256.Idx) :
    P k x = beside P ((Rect.unit (s := S512x2816) ![0, 256 * k.val] ![512, 256] h).emb x) := by
  have hx : (x 1).val < 256 := (x 1).isLt
  have h1 : (((Rect.unit (s := S512x2816) ![0, 256 * k.val] ![512, 256] h).emb x) 1).val = 256 * k.val + (x 1).val := by
    rw [Rect.emb_apply]; show 256 * k.val + 1 * (x 1).val = _; omega
  have h0 : (((Rect.unit (s := S512x2816) ![0, 256 * k.val] ![512, 256] h).emb x) 0).val = (x 0).val := by
    rw [Rect.emb_apply]; show 0 + 1 * (x 0).val = _; omega
  unfold beside
  have e1 : (⟨(((Rect.unit (s := S512x2816) ![0, 256 * k.val] ![512, 256] h).emb x) 1).val / 256, by omega⟩ : Fin 11) = k :=
    Fin.ext (by show _ / 256 = _; omega)
  rw [e1]
  congr 1
  funext a
  fin_cases a
  · exact Fin.ext h0.symm
  · exact Fin.ext (by show (x 1).val = (((Rect.unit (s := S512x2816) ![0, 256 * k.val] ![512, 256] h).emb x) 1).val % 256; omega)

/-- Eleven stores of column chunks, read back. -/
theorem beside_read {v : View sig .tc .vmem S512x2816 .bf16} (P : Fin 11 → FVec F S512x256 .bf16) (r : Rect S512x2816)
    (h0 h1 h2 h3 h4 h5 h6 h7 h8 h9 h10) (p0 p1 p2 p3 p4 p5 p6 p7 p8 p9 p10 : S512x256.Idx → Elt F .bf16)
    (e0 : p0 = P 0) (e1 : p1 = P 1) (e2 : p2 = P 2) (e3 : p3 = P 3) (e4 : p4 = P 4) (e5 : p5 = P 5) (e6 : p6 = P 6)
    (e7 : p7 = P 7) (e8 : p8 = P 8) (e9 : p9 = P 9) (e10 : p10 = P 10) :
    v.readCov (Val := Elt F) [⟨Rect.unit (s := S512x2816) ![0, 2560] ![512, 256] h10, p10⟩, ⟨Rect.unit (s := S512x2816) ![0, 2304] ![512, 256] h9, p9⟩,
      ⟨Rect.unit (s := S512x2816) ![0, 2048] ![512, 256] h8, p8⟩, ⟨Rect.unit (s := S512x2816) ![0, 1792] ![512, 256] h7, p7⟩,
      ⟨Rect.unit (s := S512x2816) ![0, 1536] ![512, 256] h6, p6⟩, ⟨Rect.unit (s := S512x2816) ![0, 1280] ![512, 256] h5, p5⟩,
      ⟨Rect.unit (s := S512x2816) ![0, 1024] ![512, 256] h4, p4⟩, ⟨Rect.unit (s := S512x2816) ![0, 768] ![512, 256] h3, p3⟩,
      ⟨Rect.unit (s := S512x2816) ![0, 512] ![512, 256] h2, p2⟩, ⟨Rect.unit (s := S512x2816) ![0, 256] ![512, 256] h1, p1⟩,
      ⟨Rect.unit (s := S512x2816) ![0, 0] ![512, 256] h0, p0⟩] r.toLoadRect = View.ld (beside P) r := by
  subst e0 e1 e2 e3 e4 e5 e6 e7 e8 e9 e10
  rw [View.readCov_eq_canon']
  funext j
  refine View.canon_apply_of_pieces (beside P) _ ?_ _ ?_
  · simp only [List.forall_mem_cons, List.not_mem_nil, false_imp_iff, implies_true, and_true]
    exact ⟨beside_emb P 10 h10, beside_emb P 9 h9, beside_emb P 8 h8, beside_emb P 7 h7, beside_emb P 6 h6, beside_emb P 5 h5, beside_emb P 4 h4,
      beside_emb P 3 h3, beside_emb P 2 h2, beside_emb P 1 h1, beside_emb P 0 h0⟩
  · exact View.cover_of_tiledL (Val := Elt F) (s := S512x2816) (e := .bf16) _ S512x256.size (by sl_kernel_rfl) _

/-- The activations at a grid point. -/
def acts (c : Dev nD) (t : Fin cfg0.N) : S512x2816.Idx → Elt F .bf16 := beside (actOf m c t)

/-- A half of the rows at a grid point. -/
def rowsOut (c : Dev nD) (t : Fin cfg0.N) (r : Fin 2) : FVec F S256x1024 .f32 :=
  k0_pay48 (k0_pay47 (View.ld (S := S512x2816) (acts m c t) (Rect.unit (s := S512x2816) ![256 * r.val, 0] ![256, 2816] (act_inb r)))
      (View.ld (S := S2816x1024) (iblk m c 6 t) (Rect.unit (s := S2816x1024) ![0, 0] ![2816, 1024] inb_S2816x1024_S2816x1024_0_0))
      (View.ld (S := S512x1024) (iblk m c 1 t) (Rect.unit (s := S512x1024) ![256 * r.val, 0] ![256, 1024] (row_inb r))))
    (View.ld (S := S1x1024) (iblk m c 7 t) (Rect.unit (s := S1x1024) ![0, 0] ![1, 1024] inb_S1x1024_S1x1024_0_0))
    (View.ld (S := S1x1024) (iblk m c 8 t) (Rect.unit (s := S1x1024) ![0, 0] ![1, 1024] inb_S1x1024_S1x1024_0_0))

/-- The output window at a grid point: row `r` is row `r % 256` of half `r / 256`. -/
def window (c : Dev nD) (t : Fin cfg0.N) : S512x1024.Idx → Elt F .f32 := fun y =>
  rowsOut m c t ⟨(y 0).val / 256, by have : (y 0).val < 512 := (y 0).isLt; omega⟩
    (fun a => match a with | ⟨0, _⟩ => (⟨(y 0).val % 256, by omega⟩ : Fin 256) | ⟨1, _⟩ => y 1)

/-- The window under a half's rectangle is the half. -/
theorem window_emb (c : Dev nD) (t : Fin cfg0.N) (r : Fin 2) (h) (x : S256x1024.Idx) :
    window m c t ((Rect.unit (s := S512x1024) ![256 * r.val, 0] ![256, 1024] h).emb x) = rowsOut m c t r x := by
  have hx : (x 0).val < 256 := (x 0).isLt
  have h0 : (((Rect.unit (s := S512x1024) ![256 * r.val, 0] ![256, 1024] h).emb x) 0).val = 256 * r.val + (x 0).val := by
    rw [Rect.emb_apply]; show 256 * r.val + 1 * (x 0).val = _; omega
  have h1 : (((Rect.unit (s := S512x1024) ![256 * r.val, 0] ![256, 1024] h).emb x) 1).val = (x 1).val := by
    rw [Rect.emb_apply]; show 0 + 1 * (x 1).val = _; omega
  unfold window
  have e1 : (⟨(((Rect.unit (s := S512x1024) ![256 * r.val, 0] ![256, 1024] h).emb x) 0).val / 256, by omega⟩ : Fin 2) = r :=
    Fin.ext (by show _ / 256 = _; omega)
  rw [e1]
  congr 1
  funext a
  fin_cases a
  · exact Fin.ext (by show (((Rect.unit (s := S512x1024) ![256 * r.val, 0] ![256, 1024] h).emb x) 0).val % 256 = (x 0).val; omega)
  · exact Fin.ext h1

set_option maxHeartbeats 8000000 in
/-- What the body leaves in the output window at a grid point. -/
theorem outs_eq (c : Dev nD) (t : Fin cfg0.N) (y : S512x1024.Idx) : outsAt0 m c t y = window m c t y := by
  unfold outsAt0 out0_A_9
  rw [View.read_writes_eq_canon _ _ _ (cover0_A_9 c _ _ _ _ _ _ _ _ _ _ _ _ _ _ _ _ _ _ _ _ _ _ _ _ _ _ _ _ _ _ _ _ _ _ _ _)]
  refine View.canon_apply_of_pieces (window m c t) _ ?_ y (cover0_A_9 c _ _ _ _ _ _ _ _ _ _ _ _ _ _ _ _ _ _ _ _ _ _ _ _ _ _ _ _ _ _ _ _ _ _ _ _ y)
  unfold kernelRun0_A; dsimp only
  sl_unfold_words
  simp (disch := decide) only [↓ View.readCov_skip, ↓ View.readCov_cons_toLoadRect, View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread]
  simp only [List.forall_mem_cons, List.not_mem_nil, false_imp_iff, implies_true, and_true]
  refine ⟨?_, ?_⟩
  · intro x
    refine Eq.trans ?_ (window_emb m c t 1 (row_inb 1) x).symm
    rw [beside_read (actOf m c t)] <;> try rfl
  · intro x
    refine Eq.trans ?_ (window_emb m c t 0 (row_inb 0) x).symm
    rw [beside_read (actOf m c t)] <;> try rfl

end Cert.Kernel2Ideal.Ffn

end
-- ==== Proof.Ffn.Windows.lean ====
/- The feed-forward kernel's windows at an index, in the host's arrays. -/
module

public import proofs.«01_k».proof.Proof.Ffn.Pieces
public import Idealize.ShloMosaic.Lib.Pipeline.ValueKit.Point
public import Idealize.ShloMosaic.Lib.Pipeline.ValueKit.Geometry
public import Idealize.ShloMosaic.Lib.Pointwise

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The block of window 0 at a grid point. -/
theorem index0 : ∀ t : Fin cfg0.N, win0_0.index t = ![64 * t.val - 1, 0] := (by decide +kernel : ∀ t : Fin grid0.N, _)
/-- The block of window 1 at a grid point. -/
theorem index1 : ∀ t : Fin cfg0.N, win0_1.index t = ![t.val, 0] := (by decide +kernel : ∀ t : Fin grid0.N, _)
/-- The block of window 2 at a grid point. -/
theorem index2 : ∀ t : Fin cfg0.N, win0_2.index t = ![min (64 * t.val + 64) 8191, 0] := (by decide +kernel : ∀ t : Fin grid0.N, _)
/-- The block of window 3 at a grid point. -/
theorem index3 : ∀ t : Fin cfg0.N, win0_3.index t = ![0, 0] := (by decide +kernel : ∀ t : Fin grid0.N, _)
/-- The block of window 4 at a grid point. -/
theorem index4 : ∀ t : Fin cfg0.N, win0_4.index t = ![0, 0] := (by decide +kernel : ∀ t : Fin grid0.N, _)
/-- The block of window 5 at a grid point. -/
theorem index5 : ∀ t : Fin cfg0.N, win0_5.index t = ![0, 0] := (by decide +kernel : ∀ t : Fin grid0.N, _)
/-- The block of window 6 at a grid point. -/
theorem index6 : ∀ t : Fin cfg0.N, win0_6.index t = ![0, 0] := (by decide +kernel : ∀ t : Fin grid0.N, _)
/-- The block of window 7 at a grid point. -/
theorem index7 : ∀ t : Fin cfg0.N, win0_7.index t = ![0, 0] := (by decide +kernel : ∀ t : Fin grid0.N, _)
/-- The block of window 8 at a grid point. -/
theorem index8 : ∀ t : Fin cfg0.N, win0_8.index t = ![0, 0] := (by decide +kernel : ∀ t : Fin grid0.N, _)
/-- The block of window 9 at a grid point. -/
theorem index9 : ∀ t : Fin cfg0.N, win0_9.index t = ![t.val, 0] := (by decide +kernel : ∀ t : Fin grid0.N, _)

/-- A grid point's number is below the number of tiles. -/
theorem tile_lt (t : Fin cfg0.N) : t.val < 128 := t.isLt

/-- The window before the tile ends with the row before it. -/
theorem window0_at (c : Dev nD) (t : Fin cfg0.N) (ht : 0 < t.val) (l : Fin 1024) (n : Fin 65536) (hn : n.val + 1 = 512 * t.val) :
    iblk m c 0 t (ix2 7 l) = V m c main_v2 (ix2 n l) := by
  blk_ext! [iblk, index0 t]

/-- The tile's window holds its rows. -/
theorem window1_at (c : Dev nD) (t : Fin cfg0.N) (r : Fin 512) (l : Fin 1024) (n : Fin 65536) (hn : n.val = 512 * t.val + r.val) :
    iblk m c 1 t (ix2 r l) = V m c main_v2 (ix2 n l) := by
  blk_ext! [iblk, index1 t]

/-- The window after the tile starts with the row after it. -/
theorem window2_at (c : Dev nD) (t : Fin cfg0.N) (l : Fin 1024) (n : Fin 65536) (hn : n.val = 512 * t.val + 512) :
    iblk m c 2 t (ix2 0 l) = V m c main_v2 (ix2 n l) := by
  blk_ext! [iblk, index2 t]

/-- The first weights' window is all of them. -/
theorem window3_at (c : Dev nD) (t : Fin cfg0.N) (x : Fin 1024) (y : Fin 5632) : iblk m c 3 t (ix2 x y) = V m c main_v3 (ix2 x y) := by
  blk_ext! [iblk, index3 t]

/-- The taps' window is all of them. -/
theorem window4_at (c : Dev nD) (t : Fin cfg0.N) (x : Fin 3) (y : Fin 5632) : iblk m c 4 t (ix2 x y) = V m c main_v8 (ix2 x y) := by
  blk_ext! [iblk, index4 t]

/-- The bias's window is all of it. -/
theorem window5_at (c : Dev nD) (t : Fin cfg0.N) (y : Fin 5632) : iblk m c 5 t (ix2 0 y) = V m c main_v14 (ix2 0 y) := by
  blk_ext! [iblk, index5 t]

/-- The second weights' window is all of them. -/
theorem window6_at (c : Dev nD) (t : Fin cfg0.N) (x : Fin 2816) (y : Fin 1024) : iblk m c 6 t (ix2 x y) = V m c main_v15 (ix2 x y) := by
  blk_ext! [iblk, index6 t]

/-- The gain's window is all of it. -/
theorem window7_at (c : Dev nD) (t : Fin cfg0.N) (y : Fin 1024) : iblk m c 7 t (ix2 0 y) = V m c main_v16 (ix2 0 y) := by
  blk_ext! [iblk, index7 t]

/-- The shift's window is all of it. -/
theorem window8_at (c : Dev nD) (t : Fin cfg0.N) (y : Fin 1024) : iblk m c 8 t (ix2 0 y) = V m c main_v17 (ix2 0 y) := by
  blk_ext! [iblk, index8 t]

end Cert.Kernel2Ideal.Ffn

end
-- ==== Proof.Ffn.Host.lean ====
/- What the host hands the feed-forward call, at an index over the extended reals. -/
module

public import proofs.«01_k».proof.Proof.Gen.Kernel2Ideal.Frame
public import Idealize.ShloMosaic.Lib.StableHlo.Run
public import Idealize.ShloMosaic.Lib.Pointwise
public import Idealize.ShloMosaic.PureOps.Ideal.Laws
public import Idealize.ShloMosaic.Lib.ValueIdx

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable {F : FTy → Type} [FloatOps F]
variable (m : (ℓ : Loc nD τ sig) → Buf (Elt F) ℓ)

/-- The factor folded into the convolution. -/
def scale : FVec F S_ .f32 := Host.divf (constant S_ .f32 0x3F800000#32) (Host.sqrt (constant S_ .f32 0x40000000#32))

/-- The rows in one array. -/
def rowsOf (x : FVec F S16x4096x1024 .f32) : FVec F S65536x1024 .f32 := shapeCast S65536x1024 x shapeCasts_S16x4096x1024_S65536x1024

/-- The convolution's taps, scaled, with each chunk's gate columns next to its value columns. -/
def tapsOf (w : FVec F S3x5632 .f32) : FVec F S3x5632 .f32 :=
  shapeCast S3x5632 (transpose S3x11x2x256 [0, 2, 1, 3] (shapeCast S3x2x11x256 (mulf w (broadcastInDim S3x5632 ![] bcast_S_S3x5632 (scale (F := F)))) shapeCasts_S3x5632_S3x2x11x256)
    transposes_S3x2x11x256_S3x11x2x256_0_2_1_3) shapeCasts_S3x11x2x256_S3x5632

/-- The convolution's bias, scaled and ordered likewise. -/
def biasOf (b : FVec F S5632 .f32) : FVec F S1x5632 .f32 :=
  shapeCast S1x5632 (transpose S1x11x2x256 [0, 2, 1, 3] (shapeCast S1x2x11x256 (mulf (shapeCast S1x5632 b shapeCasts_S5632_S1x5632)
    (broadcastInDim S1x5632 ![] bcast_S_S1x5632 (scale (F := F)))) shapeCasts_S1x5632_S1x2x11x256)
    transposes_S1x2x11x256_S1x11x2x256_0_2_1_3) shapeCasts_S1x11x2x256_S1x5632

set_option maxHeartbeats 1000000 in
/-- The rows handed to the call. -/
theorem V_rows (c : Dev nD) : V m c main_v2 = rowsOf (m ((c : Thread nD τ).loc main_arg0)) := by
  unfold V; simp only [hostOps0, cast_eq]; after_results_simp; rfl

set_option maxHeartbeats 1000000 in
/-- The first weights handed to the call. -/
theorem V_up (c : Dev nD) : V m c main_v3 = truncf .bf16 (m ((c : Thread nD τ).loc main_arg1) : FVec F S1024x5632 .f32) bitsLt_bf16_f32 := by
  unfold V; simp only [hostOps0, cast_eq]; after_results_simp

set_option maxHeartbeats 1000000 in
/-- The taps handed to the call. -/
theorem V_taps (c : Dev nD) : V m c main_v8 = tapsOf (m ((c : Thread nD τ).loc main_arg2)) := by
  unfold V; simp only [hostOps0, cast_eq]; after_results_simp; rfl

set_option maxHeartbeats 1000000 in
/-- The bias handed to the call. -/
theorem V_bias (c : Dev nD) : V m c main_v14 = biasOf (m ((c : Thread nD τ).loc main_arg3)) := by
  unfold V; simp only [hostOps0, cast_eq]; after_results_simp; rfl

set_option maxHeartbeats 1000000 in
/-- The second weights handed to the call. -/
theorem V_down (c : Dev nD) : V m c main_v15 = truncf .bf16 (m ((c : Thread nD τ).loc main_arg4) : FVec F S2816x1024 .f32) bitsLt_bf16_f32 := by
  unfold V; simp only [hostOps0, cast_eq]; after_results_simp

set_option maxHeartbeats 1000000 in
/-- The norm's gain handed to the call. -/
theorem V_gain (c : Dev nD) : V m c main_v16 = shapeCast S1x1024 (m ((c : Thread nD τ).loc main_arg5) : FVec F S1024 .f32) shapeCasts_S1024_S1x1024 := by
  unfold V; simp only [hostOps0, cast_eq]; after_results_simp; rfl

set_option maxHeartbeats 1000000 in
/-- The norm's shift handed to the call. -/
theorem V_shift (c : Dev nD) : V m c main_v17 = shapeCast S1x1024 (m ((c : Thread nD τ).loc main_arg6) : FVec F S1024 .f32) shapeCasts_S1024_S1x1024 := by
  unfold V; simp only [hostOps0, cast_eq]; after_results_simp; rfl

/-- The word of 2. -/
theorem ofBits_two : Ideal.ofBits .f32 0x40000000#32 = ((2 : ℝ) : EReal) := by
  simp [Ideal.ofBits, Ideal.ieee]; rw [← EReal.coe_mul]; norm_num

/-- The factor's reciprocal is the root of two. -/
theorem scale_at : scale (F := Ideal) ix0 = ((1 / Real.sqrt 2 : ℝ) : EReal) := by
  have h2 : (0 : ℝ) < Real.sqrt 2 := Real.sqrt_pos.2 (by norm_num)
  pointwise [scale]
  rw [ofBits_two]
  rw [Ideal.sqrt_coe, if_neg (by norm_num)]
  simp only [Ideal.div]
  rw [if_neg (by exact_mod_cast h2.ne'), ← EReal.coe_inv]
  simp

/-- A row of the one array. -/
theorem rowsOf_at (x : FVec Ideal S16x4096x1024 .f32) (b : Fin 16) (s : Fin 4096) (d : Fin 1024) (n : Fin 65536) (hn : n.val = 4096 * b.val + s.val) :
    rowsOf x (ix2 n d) = x (ix3 b s d) := by
  obtain ⟨n, h⟩ := n
  obtain rfl : n = 4096 * b.val + s.val := hn
  pointwise [rowsOf]

/-- A scaled tap. -/
theorem tapsOf_at (w : FVec Ideal S3x5632 .f32) (i : Fin 3) (k : Fin 11) (h : Fin 2) (j : Fin 256) :
    tapsOf w (ix2 i ⟨512 * k.val + (256 * h.val + j.val), by omega⟩) = w (ix2 i ⟨2816 * h.val + (256 * k.val + j.val), by omega⟩) * ((1 / Real.sqrt 2 : ℝ) : EReal) := by
  rw [← scale_at]
  generalize hs : scale (F := Ideal) = z
  pointwise [tapsOf, hs]
  exact congrArg (fun y => w (ix2 i y) * z ix0) (Fin.ext (by simp only; omega))

/-- A scaled bias. -/
theorem biasOf_at (w : FVec Ideal S5632 .f32) (k : Fin 11) (h : Fin 2) (j : Fin 256) :
    biasOf w (ix2 0 ⟨512 * k.val + (256 * h.val + j.val), by omega⟩) = w (ix1 ⟨2816 * h.val + (256 * k.val + j.val), by omega⟩) * ((1 / Real.sqrt 2 : ℝ) : EReal) := by
  rw [← scale_at]
  generalize hs : scale (F := Ideal) = z
  pointwise [biasOf, hs]
  exact congrArg (fun y => w (ix1 y) * z ix0) (Fin.ext (by simp only; omega))

/-- A row vector's entry. -/
theorem row_at (g : FVec Ideal S1024 .f32) (d : Fin 1024) : shapeCast S1x1024 g shapeCasts_S1024_S1x1024 (ix2 0 d) = g (ix1 d) := by
  pointwise []

end Cert.Kernel2Ideal.Ffn

end
-- ==== Proof.Ffn.Block.lean ====
/- The feed-forward kernel's values at an index, over the extended reals. -/
module

public import proofs.«01_k».proof.Proof.Ffn.Pieces
public import Idealize.ShloMosaic.PureOps.Ideal.Laws
public import Idealize.ShloMosaic.Lib.ValueIdx

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

/-- Whether the tile is its sequence's first, as the kernel computes it. -/
def firstWord (i : grid0.Coords) : BitVec 1 :=
  let arg0 : BitVec 32 := BitVec.ofNat 32 (i 0).val
  let v1 : BitVec 32 := Scalar.select (Scalar.cmpi .eq 8#32 0#32) 1#32 8#32
  let v2 : BitVec 32 := Scalar.remsi arg0 v1
  let v7 : BitVec 1 := Scalar.andi (Scalar.xori (Scalar.cmpi .slt v2 0#32) (Scalar.cmpi .slt v1 0#32)) (Scalar.cmpi .ne v2 0#32)
  Scalar.cmpi .eq (Scalar.select v7 (Scalar.addi v2 v1) v2) 0#32

/-- Whether the tile is its sequence's last, as the kernel computes it. -/
def lastWord (i : grid0.Coords) : BitVec 1 :=
  let arg0 : BitVec 32 := BitVec.ofNat 32 (i 0).val
  let v1 : BitVec 32 := Scalar.select (Scalar.cmpi .eq 8#32 0#32) 1#32 8#32
  let v2 : BitVec 32 := Scalar.remsi arg0 v1
  let v7 : BitVec 1 := Scalar.andi (Scalar.xori (Scalar.cmpi .slt v2 0#32) (Scalar.cmpi .slt v1 0#32)) (Scalar.cmpi .ne v2 0#32)
  Scalar.cmpi .eq (Scalar.select v7 (Scalar.addi v2 v1) v2) 7#32

/-- The first tiles are the multiples of eight. -/
theorem firstWord_eq : ∀ t : Fin cfg0.N, firstWord (grid0.coords t) = if t.val % 8 = 0 then 1#1 else 0#1 :=
  (by decide +kernel : ∀ t : Fin grid0.N, _)

/-- The last tiles are those before the multiples of eight. -/
theorem lastWord_eq : ∀ t : Fin cfg0.N, lastWord (grid0.coords t) = if t.val % 8 = 7 then 1#1 else 0#1 :=
  (by decide +kernel : ∀ t : Fin grid0.N, _)

/-- The stacked rows, from the two words. -/
theorem pay2_eq (i : grid0.Coords) (p : FVec Ideal S8x1024 .f32) (x : FVec Ideal S512x1024 .f32) (n : FVec Ideal S8x1024 .f32) :
    k0_pay2 i p x n = truncf .bf16 (concatenate S528x1024 0 [⟨S8x1024, Scalar.select (firstWord i) (broadcast S8x1024 (Scalar.ofBits .f32 0x00000000#32)) (shapeCast S8x1024 p shapeCasts_S8x1024_S8x1024)⟩, ⟨S512x1024, shapeCast S512x1024 x shapeCasts_S512x1024_S512x1024⟩, ⟨S8x1024, Scalar.select (lastWord i) (broadcast S8x1024 (Scalar.ofBits .f32 0x00000000#32)) (shapeCast S8x1024 n shapeCasts_S8x1024_S8x1024)⟩] concatenates_S8x1024_S512x1024_S8x1024_S528x1024_d0) bitsLt_bf16_f32 := rfl

/-- The row before the tile, in the stacked rows: zero in a first tile. -/
theorem stack_before (i : grid0.Coords) (p : FVec Ideal S8x1024 .f32) (x : FVec Ideal S512x1024 .f32) (n : FVec Ideal S8x1024 .f32) (d : Fin 1024) :
    (k0_pay3 (F := Ideal) (k0_pay2 i p x n) (ix2 7 d) : EReal) = if firstWord i = 1#1 then (0 : EReal) else p (ix2 7 d) := by
  rw [pay2_eq]
  generalize firstWord i = f
  generalize lastWord i = l
  pointwise [k0_pay3]
  rfl

/-- The row after the tile, in the stacked rows: zero in a last tile. -/
theorem stack_after (i : grid0.Coords) (p : FVec Ideal S8x1024 .f32) (x : FVec Ideal S512x1024 .f32) (n : FVec Ideal S8x1024 .f32) (d : Fin 1024) :
    (k0_pay3 (F := Ideal) (k0_pay2 i p x n) (ix2 520 d) : EReal) = if lastWord i = 1#1 then (0 : EReal) else n (ix2 0 d) := by
  rw [pay2_eq]
  generalize firstWord i = f
  generalize lastWord i = l
  pointwise [k0_pay3]
  rfl

/-- A row of the tile, in the stacked rows. -/
theorem stack_mid (i : grid0.Coords) (p : FVec Ideal S8x1024 .f32) (x : FVec Ideal S512x1024 .f32) (n : FVec Ideal S8x1024 .f32) (r : Fin 512) (d : Fin 1024) :
    (k0_pay3 (F := Ideal) (k0_pay2 i p x n) (ix2 ⟨8 + r.val, by omega⟩ d) : EReal) = x (ix2 r d) := by
  pointwise [k0_pay3, k0_pay2]

/-- A chunk of products: gate columns. -/
theorem hid_gate (a b : FVec Ideal S1024x256 .bf16) (X : FVec Ideal S528x1024 .bf16) (i : Fin 528) (j : Fin 256) :
    (k0_pay4 (F := Ideal) a b X (ix3 0 i ⟨j.val, by omega⟩) : EReal) = ∑ d : Fin 1024, (X (ix2 i d) : EReal) * (a (ix2 d j) : EReal) := by
  pointwise [k0_pay4]

/-- A chunk of products: value columns. -/
theorem hid_val (a b : FVec Ideal S1024x256 .bf16) (X : FVec Ideal S528x1024 .bf16) (i : Fin 528) (j : Fin 256) :
    (k0_pay4 (F := Ideal) a b X (ix3 0 i ⟨256 + j.val, by omega⟩) : EReal) = ∑ d : Fin 1024, (X (ix2 i d) : EReal) * (b (ix2 d j) : EReal) := by
  pointwise [k0_pay4]

/-- The convolution at a row and a column of a chunk. -/
def conv (w : FVec Ideal S3x512 .f32) (h : FVec Ideal S1x528x512 .f32) (b : FVec Ideal S1x512 .f32) (r : Fin 512) (j : Fin 512) : EReal :=
  w (ix2 0 j) * h (ix3 0 ⟨7 + r.val, by omega⟩ j) + w (ix2 1 j) * h (ix3 0 ⟨8 + r.val, by omega⟩ j) + w (ix2 2 j) * h (ix3 0 ⟨9 + r.val, by omega⟩ j)
    + b (ix2 0 j)

/-- A chunk of activations at an index. -/
theorem act_at (w : FVec Ideal S3x512 .f32) (h : FVec Ideal S1x528x512 .f32) (b : FVec Ideal S1x512 .f32) (r : Fin 512) (j : Fin 256) :
    (k0_pay16 (F := Ideal) w h b (ix2 r j) : EReal) = conv w h b r ⟨j.val, by omega⟩ * (1 + Ideal.erf (conv w h b r ⟨j.val, by omega⟩)) * conv w h b r ⟨256 + j.val, by omega⟩ := by
  have eb : ∀ k : Fin 512, (⟨(8 + k.val + 528 - 1) % 528, by omega⟩ : Fin 528) = ⟨7 + k.val, by omega⟩ := fun k => Fin.ext (by show (8 + k.val + 528 - 1) % 528 = 7 + k.val; omega)
  have ea : ∀ k : Fin 512, (⟨(8 + k.val + 528 - 527) % 528, by omega⟩ : Fin 528) = ⟨9 + k.val, by omega⟩ := fun k => Fin.ext (by show (8 + k.val + 528 - 527) % 528 = 9 + k.val; omega)
  pointwise [k0_pay16]
  rw [eb, ea]
  rfl

/-- The residual and the product with the weights, at an index. -/
theorem mix_at (a : FVec Ideal S256x2816 .bf16) (W : FVec Ideal S2816x1024 .bf16) (x : FVec Ideal S256x1024 .f32) (r : Fin 256) (c : Fin 1024) :
    k0_pay47 a W x (ix2 r c) = Ideal.ofBits .f32 0x3F9837F0#32 * x (ix2 r c) + ∑ k : Fin 2816, a (ix2 r k) * W (ix2 k c) := by
  pointwise [k0_pay47]

/-- A row's norm at a column. -/
def lnRow (v : Fin 1024 → EReal) (g b : EReal) (c : Fin 1024) : EReal :=
  let mu := Ideal.div (∑ d, v d) (Ideal.ofBits .f32 0x44800000#32)
  (v c - mu) * Ideal.rsqrt (Ideal.div (∑ d, (v d - mu) * (v d - mu)) (Ideal.ofBits .f32 0x44800000#32) + Ideal.ofBits .f32 0x3727C5AC#32) * g + b

/-- The norm at an index. -/
theorem ln_at (v : FVec Ideal S256x1024 .f32) (g b : FVec Ideal S1x1024 .f32) (r : Fin 256) (c : Fin 1024) :
    k0_pay48 v g b (ix2 r c) = lnRow (fun d => v (ix2 r d)) (g (ix2 0 c)) (b (ix2 0 c)) c := by
  pointwise [k0_pay48, lnRow]

end Cert.Kernel2Ideal.Ffn

end
-- ==== Proof.Ffn.RefAt.lean ====
/- The plain feed-forward half at an index over the extended reals. -/
module

public import proofs.«01_k».proof.Proof.Gen.Reference2Ideal.Read
public import proofs.«01_k».proof.Proof.Ffn.Block
public import Idealize.ShloMosaic.Lib.KernelVsHost
public import Idealize.ShloMosaic.Lib.Pointwise

@[expose] public section

set_option maxRecDepth 16384

noncomputable section

namespace Cert.Kernel2Ideal.Ffn

open Idealize.ShloMosaic Cert.Reference2Ideal Cert.Reference2Ideal.Gen Cert.Reference2Ideal.Read

/-- A row's product with a column of the first weights. -/
def up (x : FVec Ideal S16x4096x1024 .f32) (W : FVec Ideal S1024x5632 .f32) (b : Fin 16) (s : Fin 4096) (y : Fin 5632) : EReal :=
  ∑ d : Fin 1024, (x (ix3 b s d) : EReal) * (W (ix2 d y) : EReal)

/-- The reference's first product at an index. -/
theorem up_at (x : FVec Ideal S16x4096x1024 .f32) (W : FVec Ideal S1024x5632 .f32) (b : Fin 16) (s : Fin 4096) (y : Fin 5632) :
    val_main_v0 (F := Ideal) x W (ix3 b s y) = up x W b s y := by
  pointwise [val_main_v0, up]

/-- The padded product at an index. -/
theorem pad_at (x : FVec Ideal S16x4096x1024 .f32) (W : FVec Ideal S1024x5632 .f32) (b : Fin 16) (r : Fin 4098) (y : Fin 5632) :
    val_main_v1 (F := Ideal) x W (ix3 b r y) = if hr : 1 ≤ r.val ∧ r.val < 4097 then up x W b ⟨r.val - 1, by omega⟩ y else 0 := by
  simp only [← up_at]
  generalize hX : val_main_v0 (F := Ideal) x W = X
  pointwise [val_main_v1, val_main_call0_v0, hX]
  have h0 : FloatOps.sitofp (F := Ideal) FTy.f32 (val_main_c (F := Ideal) (Shape.Idx.first h_S_)) = (0 : EReal) := by
    show (((0#32 : BitVec 32).toInt : ℝ) : EReal) = 0
    simp
  rw [h0]
  exact dite_congr (propext (by omega)) (fun _ => rfl) (fun _ => rfl)

/-- The product of the row before, zero before the first row. -/
def before (x : FVec Ideal S16x4096x1024 .f32) (W : FVec Ideal S1024x5632 .f32) (b : Fin 16) (s : Fin 4096) (y : Fin 5632) : EReal :=
  if s.val = 0 then 0 else up x W b ⟨s.val - 1, by omega⟩ y

/-- The product of the row after, zero after the last row. -/
def after (x : FVec Ideal S16x4096x1024 .f32) (W : FVec Ideal S1024x5632 .f32) (b : Fin 16) (s : Fin 4096) (y : Fin 5632) : EReal :=
  if h : s.val = 4095 then 0 else up x W b ⟨s.val + 1, by omega⟩ y

/-- The convolution over the rows. -/
def hOf (x : FVec Ideal S16x4096x1024 .f32) (W : FVec Ideal S1024x5632 .f32) (cw : FVec Ideal S3x5632 .f32) (cb : FVec Ideal S5632 .f32)
    (b : Fin 16) (s : Fin 4096) (y : Fin 5632) : EReal :=
  (cw (ix2 0 y) : EReal) * before x W b s y + (cw (ix2 1 y) : EReal) * up x W b s y + (cw (ix2 2 y) : EReal) * after x W b s y + (cb (ix1 y) : EReal)

/-- The reference's convolution at an index. -/
theorem conv_at (x : FVec Ideal S16x4096x1024 .f32) (W : FVec Ideal S1024x5632 .f32) (cw : FVec Ideal S3x5632 .f32) (cb : FVec Ideal S5632 .f32)
    (b : Fin 16) (s : Fin 4096) (y : Fin 5632) :
    val_main_v24 (F := Ideal) x W cw cb (ix3 b s y) = hOf x W cw cb b s y := by
  have e0 : val_main_v1 (F := Ideal) x W (ix3 b ⟨s.val, by omega⟩ y) = before x W b s y := by
    rw [pad_at]; unfold before; simp only
    split_ifs <;> first | omega | rfl
  have e1 : val_main_v1 (F := Ideal) x W (ix3 b ⟨1 + s.val, by omega⟩ y) = up x W b s y := by
    rw [pad_at, dif_pos (by simp only; omega)]
    exact congrArg (fun k => up x W b k y) (Fin.ext (by simp only; omega))
  have e2 : val_main_v1 (F := Ideal) x W (ix3 b ⟨2 + s.val, by omega⟩ y) = after x W b s y := by
    rw [pad_at]; unfold after; simp only
    split_ifs <;> first | omega | rfl | exact congrArg (fun k => up x W b k y) (Fin.ext (by simp only; omega))
  rw [hOf, ← e0, ← e1, ← e2]
  generalize hX : val_main_v1 (F := Ideal) x W = X
  pointwise [val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4, val_main_v3, val_main_v2, hX]

/-- The gated activation. -/
def gate (a u : EReal) : EReal :=
  Ideal.div (a * (1 + Ideal.erf (Ideal.div a (Ideal.sqrt (Ideal.ofBits .f32 0x40000000#32))))) (Ideal.ofBits .f32 0x40000000#32) * u

/-- The reference's activations at an index. -/
theorem gate_at (x : FVec Ideal S16x4096x1024 .f32) (W : FVec Ideal S1024x5632 .f32) (cw : FVec Ideal S3x5632 .f32) (cb : FVec Ideal S5632 .f32)
    (b : Fin 16) (s : Fin 4096) (k : Fin 2816) :
    val_main_v38 (F := Ideal) x W cw cb (ix3 b s k) = gate (hOf x W cw cb b s ⟨k.val, by omega⟩) (hOf x W cw cb b s ⟨2816 + k.val, by omega⟩) := by
  rw [← conv_at, ← conv_at]
  generalize hX : val_main_v24 (F := Ideal) x W cw cb = X
  pointwise [val_main_v38, val_main_v35, val_main_v34, val_main_v33, val_main_v32, val_main_v31, val_main_v30, val_main_v29, val_main_v28, val_main_v27, val_main_v26, val_main_v25,
    val_main_cst, val_main_cst_0, val_main_cst_1, gate, hX]

/-- The row the reference normalizes. -/
def mixed (x : FVec Ideal S16x4096x1024 .f32) (W : FVec Ideal S1024x5632 .f32) (cw : FVec Ideal S3x5632 .f32) (cb : FVec Ideal S5632 .f32)
    (wd : FVec Ideal S2816x1024 .f32) (b : Fin 16) (s : Fin 4096) (d : Fin 1024) : EReal :=
  Ideal.ofBits .f32 0x3F9837F0#32 * (x (ix3 b s d) : EReal)
    + ∑ k : Fin 2816, gate (hOf x W cw cb b s ⟨k.val, by omega⟩) (hOf x W cw cb b s ⟨2816 + k.val, by omega⟩) * (wd (ix2 k d) : EReal)

/-- The reference's residual sum at an index. -/
theorem mixed_at (x : FVec Ideal S16x4096x1024 .f32) (W : FVec Ideal S1024x5632 .f32) (cw : FVec Ideal S3x5632 .f32) (cb : FVec Ideal S5632 .f32)
    (wd : FVec Ideal S2816x1024 .f32) (b : Fin 16) (s : Fin 4096) (d : Fin 1024) :
    val_main_v40 (F := Ideal) x W cw cb wd (ix3 b s d) = mixed x W cw cb wd b s d := by
  unfold mixed
  simp only [← gate_at]
  generalize hX : val_main_v38 (F := Ideal) x W cw cb = X
  pointwise [val_main_v40, val_main_v39, val_main_v37, val_main_v36, val_main_cst_2, hX]

/-- The reference's result at an index. -/
theorem result_at (x : FVec Ideal S16x4096x1024 .f32) (W : FVec Ideal S1024x5632 .f32) (cw : FVec Ideal S3x5632 .f32) (cb : FVec Ideal S5632 .f32)
    (wd : FVec Ideal S2816x1024 .f32) (g be : FVec Ideal S1024 .f32) (b : Fin 16) (s : Fin 4096) (d : Fin 1024) (n : Fin 65536) (hn : n.val = 4096 * b.val + s.val) :
    val_main_v65 (F := Ideal) x W cw cb wd g be (ix2 n d)
      = lnRow (fun e => mixed x W cw cb wd b s e) (g (ix1 d)) (be (ix1 d)) d := by
  have e : val_main_v65 (F := Ideal) x W cw cb wd g be (ix2 n d) = val_main_v64 (F := Ideal) x W cw cb wd g be (ix3 b s d) := by
    generalize hX : val_main_v64 (F := Ideal) x W cw cb wd g be = X
    pointwise [val_main_v65, hX]
    exact congrArg₂ (fun b s => X (ix3 b s d)) (Fin.ext (by simp only; omega)) (Fin.ext (by simp only; omega))
  rw [e]
  simp only [← mixed_at]
  generalize hX : val_main_v40 (F := Ideal) x W cw cb wd = X
  pointwise [val_main_v64, val_main_v63, val_main_v62, val_main_v61, val_main_v60, val_main_v59, val_main_v58, val_main_v57, val_main_v56, val_main_v55, val_main_v54, val_main_v53,
    val_main_v52, val_main_v51, val_main_v50, val_main_v49, val_main_v48, val_main_v47, val_main_v46, val_main_v45, val_main_v44, val_main_v43, val_main_v42, val_main_v41,
    val_main_cst_3, val_main_cst_4, val_main_cst_5, val_main_cst_6, val_main_cst_7, lnRow, hX]

end Cert.Kernel2Ideal.Ffn

end
-- ==== Proof.Ffn.Final.lean ====
/- The feed-forward kernel's result array is the plain feed-forward half's, over the extended reals. -/
module

public import proofs.«01_k».proof.Proof.Ffn.Windows
public import proofs.«01_k».proof.Proof.Ffn.Host
public import proofs.«01_k».proof.Proof.Ffn.RefAt

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)
open Cert.Reference2Ideal.Read (val_main_v65)

/-- One over the root of two. -/
def kap : EReal := ((1 / Real.sqrt 2 : ℝ) : EReal)

/-- A value times the factor. -/
def scaled (a : EReal) : EReal := a * kap

/-- The factor times itself is a half. -/
theorem kap_sq : kap * kap = ((2 : ℝ)⁻¹ : ℝ) := by
  unfold kap
  rw [← EReal.coe_mul]
  congr 1
  have h : Real.sqrt 2 * Real.sqrt 2 = 2 := Real.mul_self_sqrt (by norm_num)
  rw [div_mul_div_comm, h]; norm_num

/-- A sum of four terms times the factor. -/
theorem sum_kap (a b c d : EReal) : (a + b + c + d) * kap = a * kap + b * kap + c * kap + d * kap := by
  have h0 : (0 : EReal) ≤ kap := by unfold kap; exact_mod_cast (by positivity)
  have ht : kap ≠ ⊤ := EReal.coe_ne_top _
  rw [EReal.right_distrib_of_nonneg_of_ne_top h0 ht, EReal.right_distrib_of_nonneg_of_ne_top h0 ht, EReal.right_distrib_of_nonneg_of_ne_top h0 ht]

/-- The activation of scaled values is the plain one of the values. -/
theorem gate_kap (a u : EReal) : a * kap * (1 + Ideal.erf (a * kap)) * (u * kap) = gate a u := by
  have h2 : (0 : ℝ) < Real.sqrt 2 := Real.sqrt_pos.2 (by norm_num)
  have e1 : Ideal.div a (Ideal.sqrt (Ideal.ofBits .f32 0x40000000#32)) = a * kap := by
    rw [ofBits_two, Ideal.sqrt_coe, if_neg (by norm_num)]
    simp only [Ideal.div]
    rw [if_neg (by exact_mod_cast h2.ne'), ← EReal.coe_inv]
    unfold kap; rw [one_div]
  have e2 : ∀ z : EReal, Ideal.div z (Ideal.ofBits .f32 0x40000000#32) = z * (kap * kap) := by
    intro z
    rw [ofBits_two, kap_sq]
    simp only [Ideal.div]
    rw [if_neg (by norm_num), ← EReal.coe_inv]
  unfold gate
  rw [e1, e2]
  generalize 1 + Ideal.erf (a * kap) = E
  ac_rfl

/-- A rectangle of an array, at an index. -/
theorem ld2 {A B a b : ℕ} {e : EltTy} (X : (⟨2, ![A, B]⟩ : Shape).Idx → Elt Ideal e) (o p : ℕ) (h) (i : Fin a) (j : Fin b) (i' : Fin A) (j' : Fin B)
    (hi : i'.val = o + i.val) (hj : j'.val = p + j.val) :
    View.ld (S := ⟨2, ![A, B]⟩) X (Rect.unit (s := ⟨2, ![A, B]⟩) ![o, p] ![a, b] h) (ix2 i j) = X (ix2 i' j') := by
  refine View.ld_unit_apply_of X _ _ h _ _ fun q => ?_
  fin_cases q
  · exact hi
  · exact hj

variable (m : (ℓ : Loc nD τ sig) → Buf (Elt Ideal) ℓ)

/-- The sequence of a tile's rows. -/
def seq (t : Fin cfg0.N) : Fin 16 := ⟨t.val / 8, by have := tile_lt t; omega⟩

/-- A tile's row's place in its sequence. -/
def place (t : Fin cfg0.N) (r : Fin 512) : Fin 4096 := ⟨512 * (t.val % 8) + r.val, by omega⟩

/-- The rows handed to the call, by sequence and place. -/
theorem rows_at (c : Dev nD) (b : Fin 16) (s : Fin 4096) (d : Fin 1024) (n : Fin 65536) (hn : n.val = 4096 * b.val + s.val) :
    V m c main_v2 (ix2 n d) = m ((c : Thread nD τ).loc main_arg0) (ix3 b s d) := by
  rw [V_rows]; exact rowsOf_at _ b s d n hn

/-- A tile's row. -/
theorem row_in (c : Dev nD) (t : Fin cfg0.N) (r : Fin 512) (d : Fin 1024) :
    iblk m c 1 t (ix2 r d) = m ((c : Thread nD τ).loc main_arg0) (ix3 (seq t) (place t r) d) := by
  have := tile_lt t
  rw [window1_at m c t r d ⟨512 * t.val + r.val, by omega⟩ rfl]
  exact rows_at m c _ _ _ _ (by show 512 * t.val + r.val = 4096 * (t.val / 8) + (512 * (t.val % 8) + r.val); omega)

/-- A stacked row of the tile. -/
theorem stack_row (c : Dev nD) (t : Fin cfg0.N) (r : Fin 512) (i : Fin 528) (hi : i.val = 8 + r.val) (d : Fin 1024) :
    (stack m c t (ix2 i d) : EReal) = m ((c : Thread nD τ).loc main_arg0) (ix3 (seq t) (place t r) d) := by
  have ei : i = ⟨8 + r.val, by omega⟩ := Fin.ext hi
  unfold stack
  rw [ei, stack_mid]
  refine Eq.trans ?_ (row_in m c t r d)
  exact ld2 _ 0 0 _ _ _ _ _ (by omega) (by omega)

/-- The row before, in the stacked rows. -/
theorem stack_prev (c : Dev nD) (t : Fin cfg0.N) (r : Fin 512) (i : Fin 528) (hi : i.val = 7 + r.val) (d : Fin 1024) :
    (stack m c t (ix2 i d) : EReal) = if (place t r).val = 0 then (0 : EReal)
      else m ((c : Thread nD τ).loc main_arg0) (ix3 (seq t) ⟨(place t r).val - 1, by omega⟩ d) := by
  have ht := tile_lt t
  by_cases h0 : r.val = 0
  · obtain rfl : i = 7 := Fin.ext (by show i.val = 7; omega)
    unfold stack
    rw [stack_before, firstWord_eq]
    have ep : (place t r).val = 512 * (t.val % 8) := by show 512 * (t.val % 8) + r.val = _; omega
    by_cases hf : t.val % 8 = 0
    · rw [if_pos hf, if_pos rfl, if_pos (by omega)]
    · rw [if_neg hf, if_neg (by decide), if_neg (by omega)]
      refine (ld2 _ 0 0 _ _ _ (7 : Fin 8) d rfl (by omega)).trans ?_
      rw [window0_at m c t (by omega) d ⟨512 * t.val - 1, by omega⟩ (by show 512 * t.val - 1 + 1 = _; omega)]
      exact rows_at m c _ _ _ _ (by show 512 * t.val - 1 = 4096 * (t.val / 8) + ((place t r).val - 1); omega)
  · rw [stack_row m c t ⟨r.val - 1, by omega⟩ i (by show i.val = 8 + (r.val - 1); omega) d]
    have ep : (place t r).val = 512 * (t.val % 8) + r.val := rfl
    rw [if_neg (by omega)]
    exact congrArg (fun s => m ((c : Thread nD τ).loc main_arg0) (ix3 (seq t) s d))
      (Fin.ext (by show 512 * (t.val % 8) + (r.val - 1) = (place t r).val - 1; omega))

/-- The row after, in the stacked rows. -/
theorem stack_next (c : Dev nD) (t : Fin cfg0.N) (r : Fin 512) (i : Fin 528) (hi : i.val = 9 + r.val) (d : Fin 1024) :
    (stack m c t (ix2 i d) : EReal) = if h : (place t r).val = 4095 then (0 : EReal)
      else m ((c : Thread nD τ).loc main_arg0) (ix3 (seq t) ⟨(place t r).val + 1, by omega⟩ d) := by
  have ht := tile_lt t
  by_cases h0 : r.val = 511
  · obtain rfl : i = 520 := Fin.ext (by show i.val = 520; omega)
    unfold stack
    rw [stack_after, lastWord_eq]
    have ep : (place t r).val = 512 * (t.val % 8) + 511 := by show 512 * (t.val % 8) + r.val = _; omega
    by_cases hf : t.val % 8 = 7
    · rw [if_pos hf, if_pos rfl, dif_pos (by omega)]
    · rw [if_neg hf, if_neg (by decide), dif_neg (by omega)]
      refine (ld2 _ 0 0 _ _ _ (0 : Fin 8) d rfl (by omega)).trans ?_
      rw [window2_at m c t d ⟨512 * t.val + 512, by omega⟩ rfl]
      exact rows_at m c _ _ _ _ (by show 512 * t.val + 512 = 4096 * (t.val / 8) + ((place t r).val + 1); omega)
  · rw [stack_row m c t ⟨r.val + 1, by omega⟩ i (by show i.val = 8 + (r.val + 1); omega) d]
    have ep : (place t r).val = 512 * (t.val % 8) + r.val := rfl
    rw [dif_neg (by omega)]
    exact congrArg (fun s => m ((c : Thread nD τ).loc main_arg0) (ix3 (seq t) s d))
      (Fin.ext (by show 512 * (t.val % 8) + (r.val + 1) = (place t r).val + 1; omega))

/-- A product of a chunk. -/
theorem hid_at (c : Dev nD) (t : Fin cfg0.N) (k : Fin 11) (h : Fin 2) (i : Fin 528) (j : Fin 256) :
    (hid m c t k (ix3 0 i ⟨256 * h.val + j.val, by omega⟩) : EReal)
      = ∑ d : Fin 1024, (stack m c t (ix2 i d) : EReal) * (m ((c : Thread nD τ).loc main_arg1) (ix2 d ⟨2816 * h.val + (256 * k.val + j.val), by omega⟩) : EReal) := by
  have hw : ∀ (d : Fin 1024) (y : Fin 5632), (iblk m c 3 t (ix2 d y) : EReal) = m ((c : Thread nD τ).loc main_arg1) (ix2 d y) := by
    intro d y
    rw [window3_at, V_up]; rfl
  unfold hid
  fin_cases h
  · have e : (⟨256 * 0 + j.val, by omega⟩ : Fin 512) = ⟨j.val, by omega⟩ := Fin.ext (by simp only; omega)
    show (k0_pay4 (F := Ideal) _ _ _ (ix3 0 i (⟨256 * 0 + j.val, by omega⟩ : Fin 512)) : EReal) = _
    rw [e, hid_gate]
    refine Finset.sum_congr rfl fun d _ => congrArg (_ * ·) ?_
    rw [← hw]
    exact ld2 _ _ _ _ _ _ _ _ (by omega) (by show 2816 * 0 + (256 * k.val + j.val) = _; omega)
  · have e : (⟨256 * 1 + j.val, by omega⟩ : Fin 512) = ⟨256 + j.val, by omega⟩ := rfl
    show (k0_pay4 (F := Ideal) _ _ _ (ix3 0 i (⟨256 * 1 + j.val, by omega⟩ : Fin 512)) : EReal) = _
    rw [e, hid_val]
    refine Finset.sum_congr rfl fun d _ => congrArg (_ * ·) ?_
    rw [← hw]
    exact ld2 _ _ _ _ _ _ _ _ (by omega) (by show 2816 * 1 + (256 * k.val + j.val) = _; omega)

/-- The kernel's convolution is the plain one, scaled. -/
theorem conv_eq (c : Dev nD) (t : Fin cfg0.N) (k : Fin 11) (h : Fin 2) (r : Fin 512) (j : Fin 256) :
    conv (View.ld (S := S3x5632) (iblk m c 4 t) (Rect.unit (s := S3x5632) ![0, 512 * k.val] ![3, 512] (conv_inb k))) (hid m c t k)
        (View.ld (S := S1x5632) (iblk m c 5 t) (Rect.unit (s := S1x5632) ![0, 512 * k.val] ![1, 512] (bias_inb k))) r ⟨256 * h.val + j.val, by omega⟩
      = hOf (m ((c : Thread nD τ).loc main_arg0)) (m ((c : Thread nD τ).loc main_arg1)) (m ((c : Thread nD τ).loc main_arg2)) (m ((c : Thread nD τ).loc main_arg3))
          (seq t) (place t r) ⟨2816 * h.val + (256 * k.val + j.val), by omega⟩ * kap := by
  have e0 : ∀ i : Fin 3, (View.ld (S := S3x5632) (iblk m c 4 t) (Rect.unit (s := S3x5632) ![0, 512 * k.val] ![3, 512] (conv_inb k)) (ix2 i (⟨256 * h.val + j.val, by omega⟩ : Fin 512)) : EReal)
      = scaled (m ((c : Thread nD τ).loc main_arg2) (ix2 i ⟨2816 * h.val + (256 * k.val + j.val), by omega⟩)) := by
    intro i
    refine (ld2 _ 0 (512 * k.val) _ _ _ i ⟨512 * k.val + (256 * h.val + j.val), by omega⟩ (by omega) rfl).trans ?_
    rw [window4_at, V_taps]
    exact tapsOf_at _ i k h j
  have e1 : (View.ld (S := S1x5632) (iblk m c 5 t) (Rect.unit (s := S1x5632) ![0, 512 * k.val] ![1, 512] (bias_inb k)) (ix2 0 (⟨256 * h.val + j.val, by omega⟩ : Fin 512)) : EReal)
      = scaled (m ((c : Thread nD τ).loc main_arg3) (ix1 ⟨2816 * h.val + (256 * k.val + j.val), by omega⟩)) := by
    refine (ld2 _ 0 (512 * k.val) _ _ _ 0 ⟨512 * k.val + (256 * h.val + j.val), by omega⟩ rfl rfl).trans ?_
    rw [window5_at, V_bias]
    exact biasOf_at _ k h j
  have p0 : (hid m c t k (ix3 0 (⟨7 + r.val, by omega⟩ : Fin 528) (⟨256 * h.val + j.val, by omega⟩ : Fin 512)) : EReal)
      = before (m ((c : Thread nD τ).loc main_arg0)) (m ((c : Thread nD τ).loc main_arg1)) (seq t) (place t r) ⟨2816 * h.val + (256 * k.val + j.val), by omega⟩ := by
    rw [hid_at]
    simp only [stack_prev m c t r ⟨7 + r.val, by omega⟩ rfl]
    unfold before up
    split_ifs
    · simp only [zero_mul, Finset.sum_const_zero]
    · rfl
  have p1 : (hid m c t k (ix3 0 (⟨8 + r.val, by omega⟩ : Fin 528) (⟨256 * h.val + j.val, by omega⟩ : Fin 512)) : EReal)
      = up (m ((c : Thread nD τ).loc main_arg0)) (m ((c : Thread nD τ).loc main_arg1)) (seq t) (place t r) ⟨2816 * h.val + (256 * k.val + j.val), by omega⟩ := by
    rw [hid_at]
    simp only [stack_row m c t r ⟨8 + r.val, by omega⟩ rfl]
    rfl
  have p2 : (hid m c t k (ix3 0 (⟨9 + r.val, by omega⟩ : Fin 528) (⟨256 * h.val + j.val, by omega⟩ : Fin 512)) : EReal)
      = after (m ((c : Thread nD τ).loc main_arg0)) (m ((c : Thread nD τ).loc main_arg1)) (seq t) (place t r) ⟨2816 * h.val + (256 * k.val + j.val), by omega⟩ := by
    rw [hid_at]
    simp only [stack_next m c t r ⟨9 + r.val, by omega⟩ rfl]
    unfold after up
    split_ifs
    · simp only [zero_mul, Finset.sum_const_zero]
    · rfl
  unfold conv hOf
  rw [e0, e0, e0, e1, p0, p1, p2, sum_kap]
  unfold scaled
  congr 1
  congr 1
  congr 1
  all_goals ac_rfl

/-- A tile's activation is the plain one. -/
theorem act_eq (c : Dev nD) (t : Fin cfg0.N) (r : Fin 512) (y : Fin 2816) :
    (acts m c t (ix2 r y) : EReal) = gate
      (hOf (m ((c : Thread nD τ).loc main_arg0)) (m ((c : Thread nD τ).loc main_arg1)) (m ((c : Thread nD τ).loc main_arg2)) (m ((c : Thread nD τ).loc main_arg3))
          (seq t) (place t r) ⟨y.val, by omega⟩)
      (hOf (m ((c : Thread nD τ).loc main_arg0)) (m ((c : Thread nD τ).loc main_arg1)) (m ((c : Thread nD τ).loc main_arg2)) (m ((c : Thread nD τ).loc main_arg3))
          (seq t) (place t r) ⟨2816 + y.val, by omega⟩) := by
  have e : acts m c t (ix2 r y) = actOf m c t ⟨y.val / 256, by omega⟩ (ix2 r (⟨y.val % 256, by omega⟩ : Fin 256)) := by
    unfold acts beside
    refine congrArg (actOf m c t _) (funext fun i => ?_)
    fin_cases i <;> rfl
  have h0 := conv_eq m c t ⟨y.val / 256, by omega⟩ 0 r ⟨y.val % 256, by omega⟩
  have h1 := conv_eq m c t ⟨y.val / 256, by omega⟩ 1 r ⟨y.val % 256, by omega⟩
  have i0 : (⟨256 * (0 : Fin 2).val + y.val % 256, by simp; omega⟩ : Fin 512) = ⟨y.val % 256, by omega⟩ := Fin.ext (by simp)
  have i1 : (⟨256 * (1 : Fin 2).val + y.val % 256, by simp; omega⟩ : Fin 512) = ⟨256 + y.val % 256, by omega⟩ := Fin.ext (by simp)
  have j0 : (⟨2816 * (0 : Fin 2).val + (256 * (y.val / 256) + y.val % 256), by simp; omega⟩ : Fin 5632) = ⟨y.val, by omega⟩ := Fin.ext (by simp; omega)
  have j1 : (⟨2816 * (1 : Fin 2).val + (256 * (y.val / 256) + y.val % 256), by simp; omega⟩ : Fin 5632) = ⟨2816 + y.val, by omega⟩ := Fin.ext (by simp; omega)
  rw [i0, j0] at h0
  rw [i1, j1] at h1
  rw [e]
  unfold actOf
  rw [act_at, h0, h1, gate_kap]

/-- An output window's entry is the plain half's at the entry's place in the array. -/
theorem window_eq (c : Dev nD) (t : Fin cfg0.N) (r : Fin 512) (d : Fin 1024) (n : Fin 65536) (hn : n.val = 512 * t.val + r.val) :
    window m c t (ix2 r d)
      = val_main_v65 (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (ix2 n d) := by
  have ht := tile_lt t
  rw [result_at _ _ _ _ _ _ _ (seq t) (place t r) d n (by show n.val = 4096 * (t.val / 8) + (512 * (t.val % 8) + r.val); omega)]
  have e : window m c t (ix2 r d) = rowsOut m c t ⟨r.val / 256, by omega⟩ (ix2 (⟨r.val % 256, by omega⟩ : Fin 256) d) := by
    unfold window
    refine congrArg (rowsOut m c t _) (funext fun i => ?_)
    fin_cases i <;> rfl
  rw [e]
  unfold rowsOut
  rw [ln_at]
  have hg : (View.ld (S := S1x1024) (iblk m c 7 t) (Rect.unit (s := S1x1024) ![0, 0] ![1, 1024] inb_S1x1024_S1x1024_0_0) (ix2 0 d) : EReal) = m ((c : Thread nD τ).loc main_arg5) (ix1 d) := by
    refine (ld2 _ 0 0 _ _ _ 0 d rfl (by omega)).trans ?_
    rw [window7_at, V_gain]
    exact row_at _ d
  have hb : (View.ld (S := S1x1024) (iblk m c 8 t) (Rect.unit (s := S1x1024) ![0, 0] ![1, 1024] inb_S1x1024_S1x1024_0_0) (ix2 0 d) : EReal) = m ((c : Thread nD τ).loc main_arg6) (ix1 d) := by
    refine (ld2 _ 0 0 _ _ _ 0 d rfl (by omega)).trans ?_
    rw [window8_at, V_shift]
    exact row_at _ d
  rw [hg, hb]
  refine congrArg (fun v => lnRow v _ _ d) (funext fun q => ?_)
  rw [mix_at]
  unfold mixed
  refine congrArg₂ (fun a b : EReal => _ * a + b) ?_ (Finset.sum_congr rfl fun k _ => congrArg₂ (fun a b : EReal => a * b) ?_ ?_)
  · refine Eq.trans ?_ (row_in m c t r q)
    exact ld2 _ _ 0 _ _ _ _ _ (by show r.val = 256 * (r.val / 256) + r.val % 256; omega) (by omega)
  · refine Eq.trans ?_ (act_eq m c t r k)
    exact ld2 _ _ 0 _ _ _ _ _ (by show r.val = 256 * (r.val / 256) + r.val % 256; omega) (by omega)
  · refine (ld2 _ 0 0 _ _ _ k q (by omega) (by omega)).trans ?_
    rw [window6_at, V_down]; rfl

/-- The kernel's result array. -/
theorem result_eq (c : Dev nD) :
    (dats m 0 c).arrAt 9 cfg0.N
      = val_main_v65 (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 9 _ (by decide +kernel : (cfg0.win 9).Covers) fun t hf y => ?_
  blk_simp
  rw [after0_9, outs_eq]
  have ht := tile_lt t
  have ey : y = ix2 (y 0) (y 1) := by
    funext a
    fin_cases a <;> rfl
  have hy : (y 0).val < 512 := (y 0).isLt
  rw [ey]
  refine (window_eq m c t (y 0) (y 1) ⟨512 * t.val + (y 0).val, by omega⟩ rfl).trans ?_
  generalize val_main_v65 (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) = G
  blk_ext [index9 t]

end Cert.Kernel2Ideal.Ffn

end
-- ==== Proof.Att.Finite.lean ====
/- The precondition read: every argument is finite. -/
module

public import proofs.«01_k».proof.Proof.Gen.Pre_finite
public import Idealize.ShloMosaic.Lib.ReduceAll
public import Idealize.ShloMosaic.Lib.Pointwise

@[expose] public section

noncomputable section

namespace Cert.KernelIdeal.Att

open Cert.Pre_finite Idealize.ShloMosaic

/-- A value whose absolute value is below plus infinity is a real number. -/
theorem real_of_abs_lt (x : EReal) (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x using EReal.rec with
  | bot => simp [Ideal.cmp] at h
  | top => simp [Ideal.cmp] at h
  | coe r => exact ⟨r, rfl⟩

/-- There is one index of rank zero. -/
instance : Subsingleton S_.Idx := ⟨fun a b => funext fun i => i.elim0⟩

/-- Under the precondition every argument's entries are real numbers. -/
theorem finite_args (h : FVec Ideal S16x4096x768 .f32) (w : FVec Ideal S32x8 .f32) (s : FVec Ideal S1x8 .f32)
    (e : Cert.Pre_finite.fn (F := Ideal) h w s = fun _ => 1#1) :
    (∀ i, ∃ r : ℝ, h i = (r : EReal)) ∧ (∀ i, ∃ r : ℝ, w i = (r : EReal)) ∧ (∀ i, ∃ r : ℝ, s i = (r : EReal)) := by
  have e0 := congrFun e (fun i => i.elim0)
  unfold Cert.Pre_finite.fn at e0
  obtain ⟨e1, e2⟩ := IntOp.andi_eq_one.1 e0
  obtain ⟨e3, e4⟩ := IntOp.andi_eq_one.1 e1
  refine ⟨fun i => real_of_abs_lt _ ?_, fun i => real_of_abs_lt _ ?_, fun i => real_of_abs_lt _ ?_⟩
  · exact Host.reduce_andi_all _ _ _ _ _ e3 i
  · exact Host.reduce_andi_all _ _ _ _ _ e4 i
  · exact Host.reduce_andi_all _ _ _ _ _ e2 i

end Cert.KernelIdeal.Att

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Att.Final
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Ffn.Final
public import proofs.«01_k».proof.Proof.Att.Finite
public import Idealize.ShloMosaic.Adequacy
public import Idealize.ShloMosaic.Init

@[expose] public section

noncomputable section

namespace Cert.Proof

open Idealize.ShloMosaic Idealize.SL.Sem Cert.Kernel

instance : Cert.Kernel.Facts := Cert.Kernel.Gen.facts
instance : Cert.KernelIdeal.Facts := Cert.KernelIdeal.Gen.facts
instance : Cert.ReferenceIdeal.Facts := Cert.ReferenceIdeal.Gen.facts
instance : Cert.Kernel2.Facts := Cert.Kernel2.Gen.facts
instance : Cert.Kernel2Ideal.Facts := Cert.Kernel2Ideal.Gen.facts
instance : Cert.Reference2Ideal.Facts := Cert.Reference2Ideal.Gen.facts
instance : Cert.Pre_finite.Facts := Cert.Pre_finite.Gen.facts

/-- The attention runs and leaves its arguments, over the extended reals. -/
theorem frame_kernelIdeal : Cert.quiescent_KernelIdeal := fun m ρ _ => Cert.KernelIdeal.Gen.frame m ρ

/-- The attention runs and leaves its arguments, bit for bit. -/
theorem frame_kernel : Cert.quiescent_Kernel := fun m ρ _ => Cert.Kernel.Gen.frame m ρ

/-- The reference runs and leaves its arguments. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Of finite arguments the attention and the reference leave equal results. -/
theorem same : Cert.algebraic_KernelIdeal_ReferenceIdeal_pre_finite := by
  intro m g m' g' hp ha
  refine ⟨fun c => Cert.ReferenceIdeal.Value.res_main_v113 m' c, ?_, Cert.ReferenceIdeal.Value.run (F := Ideal) m' g'⟩
  refine (θ_run Cert.KernelIdeal.defs _ _).mono (fun r h c => ⟨?_, (h c).2⟩) (Cert.KernelIdeal.Value.run_blocks m g)
  obtain ⟨h0, h1, h2⟩ := Cert.KernelIdeal.Att.finite_args _ _ _ (hp c)
  obtain ⟨a0, a1, a2⟩ := ha c
  refine (h c).1.trans ((Cert.KernelIdeal.Att.result_eq m c h0 h1 h2).trans ?_)
  show _ = Cert.ReferenceIdeal.Value.res_main_v113 m' c
  rw [Cert.ReferenceIdeal.Read.val_main_v113_eq, a0, a1, a2]

/-- The feed-forward half runs and leaves its arguments, bit for bit. -/
theorem frame_kernel2 : Cert.quiescent_Kernel2 := fun m ρ _ => Cert.Kernel2.Gen.frame m ρ

/-- The feed-forward half runs and leaves its arguments, over the extended reals. -/
theorem frame_kernel2Ideal : Cert.quiescent_Kernel2Ideal := fun m ρ _ => Cert.Kernel2Ideal.Gen.frame m ρ

/-- The plain feed-forward half runs and leaves its arguments. -/
theorem frame_reference2 : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

/-- Of any arguments the feed-forward half and its reference leave equal results. -/
theorem same2 : Cert.algebraic_Kernel2Ideal_Reference2Ideal := by
  intro m g m' g' _ ha
  refine ⟨fun c => Cert.Reference2Ideal.Value.res_main_v65 m' c, ?_, Cert.Reference2Ideal.Value.run (F := Ideal) m' g'⟩
  refine (θ_run Cert.Kernel2Ideal.defs _ _).mono (fun r h c => ⟨?_, (h c).2⟩) (Cert.Kernel2Ideal.Value.run_blocks m g)
  obtain ⟨a0, a1, a2, a3, a4, a5, a6⟩ := ha c
  refine (h c).1.trans ((Cert.Kernel2Ideal.Ffn.result_eq m c).trans ?_)
  show _ = Cert.Reference2Ideal.Value.res_main_v65 m' c
  rw [Cert.Reference2Ideal.Read.val_main_v65_eq, a0, a1, a2, a3, a4, a5, a6]

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite.Gen.facts,
  frame_kernel, frame_kernelIdeal, fun m ρ _ => Cert.KernelIdeal.Gen.frame m ρ, frame_reference,
  fun m ρ _ => frame_reference m ρ trivial, frame_kernel2, frame_kernel2Ideal, frame_reference2, trivial, same, trivial, same2⟩

end Cert.Proof

end
